-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v28_0)) (v1 : (c : Dev Cert.InprojIdeal.nD) → Buf (Elt Ideal) ((c.tc : Thread Cert.InprojIdeal.nD Cert.InprojIdeal.τ).loc Cert.InprojIdeal.main_v28_1)) (v2 : (c : Dev Cert.InprojIdeal.nD) → Buf (Elt Ideal) ((c.tc : Thread Cert.InprojIdeal.nD Cert.InprojIdeal.τ).loc Cert.InprojIdeal.main_v28_2)) (v3 : (c : Dev Cert.InprojIdeal.nD) → Buf (Elt Ideal) ((c.tc : Thread Cert.InprojIdeal.nD Cert.InprojIdeal.τ).loc Cert.InprojIdeal.main_v28_3)) (v4 : (c : Dev Cert.InprojIdeal.nD) → Buf (Elt Ideal) ((c.tc : Thread Cert.InprojIdeal.nD Cert.InprojIdeal.τ).loc Cert.InprojIdeal.main_v28_4)) (v5 : (c : Dev Cert.InprojIdeal.nD) → Buf (Elt Ideal) ((c.tc : Thread Cert.InprojIdeal.nD Cert.InprojIdeal.τ).loc Cert.InprojIdeal.main_v28_5)) (v6 : (c : Dev Cert.InprojIdeal.nD) → Buf (Elt Ideal) ((c.tc : Thread Cert.InprojIdeal.nD Cert.InprojIdeal.τ).loc Cert.InprojIdeal.main_v28_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v28_0) = v0 c
          ∧ r.2.mem ((c.tc : Thread Cert.InprojIdeal.nD Cert.InprojIdeal.τ).loc Cert.InprojIdeal.main_v28_1) = v1 c
          ∧ r.2.mem ((c.tc : Thread Cert.InprojIdeal.nD Cert.InprojIdeal.τ).loc Cert.InprojIdeal.main_v28_2) = v2 c
          ∧ r.2.mem ((c.tc : Thread Cert.InprojIdeal.nD Cert.InprojIdeal.τ).loc Cert.InprojIdeal.main_v28_3) = v3 c
          ∧ r.2.mem ((c.tc : Thread Cert.InprojIdeal.nD Cert.InprojIdeal.τ).loc Cert.InprojIdeal.main_v28_4) = v4 c
          ∧ r.2.mem ((c.tc : Thread Cert.InprojIdeal.nD Cert.InprojIdeal.τ).loc Cert.InprojIdeal.main_v28_5) = v5 c
          ∧ r.2.mem ((c.tc : Thread Cert.InprojIdeal.nD Cert.InprojIdeal.τ).loc Cert.InprojIdeal.main_v28_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v65) = v0 c
          ∧ r.2.mem ((c.tc : Thread Cert.InprojRefIdeal.nD Cert.InprojRefIdeal.τ).loc Cert.InprojRefIdeal.main_v66) = v1 c
          ∧ r.2.mem ((c.tc : Thread Cert.InprojRefIdeal.nD Cert.InprojRefIdeal.τ).loc Cert.InprojRefIdeal.main_v67) = v2 c
          ∧ r.2.mem ((c.tc : Thread Cert.InprojRefIdeal.nD Cert.InprojRefIdeal.τ).loc Cert.InprojRefIdeal.main_v68) = v3 c
          ∧ r.2.mem ((c.tc : Thread Cert.InprojRefIdeal.nD Cert.InprojRefIdeal.τ).loc Cert.InprojRefIdeal.main_v69) = v4 c
          ∧ r.2.mem ((c.tc : Thread Cert.InprojRefIdeal.nD Cert.InprojRefIdeal.τ).loc Cert.InprojRefIdeal.main_v62) = v5 c
          ∧ r.2.mem ((c.tc : Thread Cert.InprojRefIdeal.nD Cert.InprojRefIdeal.τ).loc Cert.InprojRefIdeal.main_v10) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Rwkv_RwkvIdeal : Prop :=
  True

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hRwkv : Cert.Rwkv.Facts) (hRwkvIdeal : Cert.RwkvIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Rwkv (hRwkv := hRwkv)
    ∧ quiescent_RwkvIdeal (hRwkvIdeal := hRwkvIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Rwkv_RwkvIdeal
-- ==== Ffn.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S512x1024 : Shape := ⟨2, ![512, 1024]⟩
abbrev S8x5632 : Shape := ⟨2, ![8, 5632]⟩
abbrev S512x2816 : Shape := ⟨2, ![512, 2816]⟩
abbrev S1024x256 : Shape := ⟨2, ![1024, 256]⟩
abbrev S512x256 : Shape := ⟨2, ![512, 256]⟩
abbrev S8x256 : Shape := ⟨2, ![8, 256]⟩
abbrev S520x256 : Shape := ⟨2, ![520, 256]⟩
abbrev S3x256 : Shape := ⟨2, ![3, 256]⟩
abbrev S1x256 : Shape := ⟨2, ![1, 256]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S3x5632, .f32⟩
  | .hbm, ⟨10, _⟩ => ⟨S5632, .f32⟩
  | .hbm, ⟨11, _⟩ => ⟨S1x5632, .f32⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S3x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S8x2048x1024 : Shape := ⟨3, ![8, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x5632 : Shape := ⟨3, ![8, 2048, 5632]⟩
abbrev S8x2046x5632 : Shape := ⟨3, ![8, 2046, 5632]⟩
abbrev S_ : Shape := ⟨0, ![]⟩
abbrev S1x1x5632 : Shape := ⟨3, ![1, 1, 5632]⟩
abbrev S8x2047x5632 : Shape := ⟨3, ![8, 2047, 5632]⟩
abbrev S8x2048x2816 : Shape := ⟨3, ![8, 2048, 2816]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S8x2048x1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S8x2048x5632, .f32⟩
  | .hbm, ⟨13, _⟩ => ⟨S1x5632, .f32⟩
  | .hbm, ⟨14, _⟩ => ⟨S5632, .f32⟩
  | .hbm, ⟨15, _⟩ => ⟨S8x2046x5632, .f32⟩
  | .hbm, ⟨16, _⟩ => ⟨S_, .i32⟩
  | .hbm, ⟨17, _⟩ => ⟨S_, .f32⟩
  | .hbm, ⟨18, _⟩ => ⟨S8x2048x5632, .f32⟩
  | .hbm, ⟨19, _⟩ => ⟨S1x1x5632, .f32⟩
  | .hbm, ⟨20, _⟩ => ⟨S8x2048x5632, .f32⟩
  | .hbm, ⟨21, _⟩ => ⟨S8x2048x5632, .f32⟩
  | .hbm, ⟨22, _⟩ => ⟨S1x5632, .f32⟩
  | .hbm, ⟨23, _⟩ => ⟨S5632, .f32⟩
  | .hbm, ⟨24, _⟩ => ⟨S8x2047x5632, .f32⟩
  | .hbm, ⟨25, _⟩ => ⟨S_, .i32⟩
  | .hbm, ⟨26, _⟩ => ⟨S_, .f32⟩
  | .hbm, ⟨27, _⟩ => ⟨S8x2048x5632, .f32⟩
  | .hbm, ⟨28, _⟩ => ⟨S1x1x5632, .f32⟩
  | .hbm, ⟨29, _⟩ => ⟨S8x2048x5632, .f32⟩
  | .hbm, ⟨30, _⟩ => ⟨S8x2048x5632, .f32⟩
  | .hbm, ⟨31, _⟩ => ⟨S8x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S1x1x5632, .f32⟩
  | .hbm, ⟨39, _⟩ => ⟨S8x2048x5632, .f32⟩
  | .hbm, ⟨40, _⟩ => ⟨S8x2048x5632, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x1024, .f32⟩
  | .hbm, ⟨54, _⟩ => ⟨S_, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_1 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S1x1024x5064 : Shape := ⟨3, ![1, 1024, 5064]⟩
abbrev S1x512x1024 : Shape := ⟨3, ![1, 512, 1024]⟩
abbrev S1x1024x1024 : Shape := ⟨3, ![1, 1024, 1024]⟩
abbrev S1x1024 : Shape := ⟨2, ![1, 1024]⟩
abbrev S16384x1024 : Shape := ⟨2, ![16384, 1024]⟩
abbrev S16384x512 : Shape := ⟨2, ![16384, 512]⟩
abbrev S1024x5064 : Shape := ⟨2, ![1024, 5064]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S512x1 : Shape := ⟨2, ![512, 1]⟩

abbrev nBuf : Space → Nat
  | .hbm => 26
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x5064, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x512, .bf16⟩
  | .hbm, ⟨11, _⟩ => ⟨S16384x512, .bf16⟩
  | .hbm, ⟨12, _⟩ => ⟨S1024x5064, .f32⟩
  | .hbm, ⟨13, _⟩ => ⟨S1024x2048, .f32⟩
  | .hbm, ⟨14, _⟩ => ⟨S1024x2048, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x2048, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8x2048x1024 : Shape := ⟨3, ![8, 2048, 1024]⟩
abbrev S8x2048x512 : Shape := ⟨3, ![8, 2048, 512]⟩
abbrev S1x1024x5064 : Shape := ⟨3, ![1, 1024, 5064]⟩
abbrev S1x512x1024 : Shape := ⟨3, ![1, 512, 1024]⟩
abbrev S1x1024x1024 : Shape := ⟨3, ![1, 1024, 1024]⟩
abbrev S1x1024 : Shape := ⟨2, ![1, 1024]⟩
abbrev S1024x5064 : Shape := ⟨2, ![1024, 5064]⟩
abbrev S1024x1024 : Shape := ⟨2, ![1024, 1024]⟩
abbrev S_ : Shape := ⟨0, ![]⟩
abbrev S512x1024 : Shape := ⟨2, ![512, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x5064, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1024x5064, .f32⟩
  | .hbm, ⟨10, _⟩ => ⟨S1024x1024, .f32⟩
  | .hbm, ⟨11, _⟩ => ⟨S8x2048x1024, .f32⟩
  | .hbm, ⟨12, _⟩ => ⟨S1024x5064, .f32⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S8x2048x512, .f32⟩
  | .hbm, ⟨24, _⟩ => ⟨S512x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x2048x512, .f32⟩
  | .hbm, ⟨36, _⟩ => ⟨S512x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S1024x1024, .f32⟩
  | .hbm, ⟨44, _⟩ => ⟨S8x2048x1024, .f32⟩
  | .hbm, ⟨45, _⟩ => ⟨S8x2048x1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Inproj.lean ====
abbrev S8x2048x1024 : Shape := ⟨3, ![8, 2048, 1024]⟩
abbrev S1x1024x5064 : Shape := ⟨3, ![1, 1024, 5064]⟩
abbrev S1x64 : Shape := ⟨2, ![1, 64]⟩
abbrev S1024x5064 : Shape := ⟨2, ![1024, 5064]⟩
abbrev S64 : Shape := ⟨1, ![64]⟩
abbrev S_ : Shape := ⟨0, ![]⟩
abbrev S1024x64 : Shape := ⟨2, ![1024, 64]⟩
abbrev S1024x128 : Shape := ⟨2, ![1024, 128]⟩
abbrev S1024x8 : Shape := ⟨2, ![1024, 8]⟩
abbrev S1024x512 : Shape := ⟨2, ![1024, 512]⟩
abbrev S1024x1920 : Shape := ⟨2, ![1024, 1920]⟩
abbrev S1024x1664 : Shape := ⟨2, ![1024, 1664]⟩
abbrev S128 : Shape := ⟨1, ![128]⟩
abbrev S1x128 : Shape := ⟨2, ![1, 128]⟩
abbrev S16384x1024 : Shape := ⟨2, ![16384, 1024]⟩
abbrev S16384x512 : Shape := ⟨2, ![16384, 512]⟩
abbrev S512x16384 : Shape := ⟨2, ![512, 16384]⟩
abbrev S16384x128 : Shape := ⟨2, ![16384, 128]⟩
abbrev S16384x1664 : Shape := ⟨2, ![16384, 1664]⟩
abbrev S512x1024 : Shape := ⟨2, ![512, 1024]⟩
abbrev S512x512 : Shape := ⟨2, ![512, 512]⟩
abbrev S512x128 : Shape := ⟨2, ![512, 128]⟩
abbrev S512x1664 : Shape := ⟨2, ![512, 1664]⟩
abbrev S512x1920 : Shape := ⟨2, ![512, 1920]⟩
abbrev S512x256 : Shape := ⟨2, ![512, 256]⟩
abbrev S128x512 : Shape := ⟨2, ![128, 512]⟩
abbrev S512 : Shape := ⟨1, ![512]⟩
abbrev S512x1 : Shape := ⟨2, ![512, 1]⟩

abbrev nBuf : Space → Nat
  | .hbm => 42
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1x1024x5064, .f32⟩
  | .hbm, ⟨2, _⟩ => ⟨S1x64, .f32⟩
  | .hbm, ⟨3, _⟩ => ⟨S1x64, .f32⟩
  | .hbm, ⟨4, _⟩ => ⟨S1024x5064, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S1024x64, .f32⟩
  | .hbm, ⟨9, _⟩ => ⟨S1024x128, .f32⟩
  | .hbm, ⟨10, _⟩ => ⟨S1024x64, .f32⟩
  | .hbm, ⟨11, _⟩ => ⟨S1024x128, .f32⟩
  | .hbm, ⟨12, _⟩ => ⟨S1024x64, .f32⟩
  | .hbm, ⟨13, _⟩ => ⟨S1024x128, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S1024x8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x512, .f32⟩
  | .hbm, ⟨22, _⟩ => ⟨S1024x128, .f32⟩
  | .hbm, ⟨23, _⟩ => ⟨S1024x512, .f32⟩
  | .hbm, ⟨24, _⟩ => ⟨S1024x64, .f32⟩
  | .hbm, ⟨25, _⟩ => ⟨S1024x64, .f32⟩
  | .hbm, ⟨26, _⟩ => ⟨S1024x1920, .f32⟩
  | .hbm, ⟨27, _⟩ => ⟨S1024x1920, .bf16⟩
  | .hbm, ⟨28, _⟩ => ⟨S1024x1664, .f32⟩
  | .hbm, ⟨29, _⟩ => ⟨S1024x1664, .bf16⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S16384x1024, .f32⟩
  | .hbm, ⟨35, _⟩ => ⟨S16384x512, .bf16⟩
  | .hbm, ⟨36, _⟩ => ⟨S16384x512, .bf16⟩
  | .hbm, ⟨37, _⟩ => ⟨S512x16384, .bf16⟩
  | .hbm, ⟨38, _⟩ => ⟨S16384x512, .bf16⟩
  | .hbm, ⟨39, _⟩ => ⟨S16384x128, .bf16⟩
  | .hbm, ⟨40, _⟩ => ⟨S16384x128, .f32⟩
  | .hbm, ⟨41, _⟩ => ⟨S16384x1664, .f32⟩
  | .local _ .vmem, ⟨0, _⟩ => ⟨S512x1024, .f32⟩
  | .local _ .vmem, ⟨1, _⟩ => ⟨S512x1024, .f32⟩
  | .local _ .vmem, ⟨2, _⟩ => ⟨S1024x1920, .bf16⟩
  | .local _ .vmem, ⟨3, _⟩ => ⟨S1024x1664, .bf16⟩
  | .local _ .vmem, ⟨4, _⟩ => ⟨S1x128, .f32⟩
  | .local _ .vmem, ⟨5, _⟩ => ⟨S1x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x1664, .f32⟩
  | .local _ .vmem, ⟨19, _⟩ => ⟨S512x1664, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev main_v28_4 : Ref sig .tc := ⟨.hbm, 39, rfl⟩
abbrev main_v28_5 : Ref sig .tc := ⟨.hbm, 40, rfl⟩
abbrev main_v28_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1664 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S8x2048x1024 : Shape := ⟨3, ![8, 2048, 1024]⟩
abbrev S1x1024x5064 : Shape := ⟨3, ![1, 1024, 5064]⟩
abbrev S1x64 : Shape := ⟨2, ![1, 64]⟩
abbrev S16384x1024 : Shape := ⟨2, ![16384, 1024]⟩
abbrev S1024x5064 : Shape := ⟨2, ![1024, 5064]⟩
abbrev S1024x3016 : Shape := ⟨2, ![1024, 3016]⟩
abbrev S16384x3016 : Shape := ⟨2, ![16384, 3016]⟩
abbrev S16384x512 : Shape := ⟨2, ![16384, 512]⟩
abbrev S16384x128 : Shape := ⟨2, ![16384, 128]⟩
abbrev S16384x64 : Shape := ⟨2, ![16384, 64]⟩
abbrev S16384x8 : Shape := ⟨2, ![16384, 8]⟩
abbrev S16384x1664 : Shape := ⟨2, ![16384, 1664]⟩
abbrev S64 : Shape := ⟨1, ![64]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S8x2048 : Shape := ⟨2, ![8, 2048]⟩
abbrev S16384x2 : Shape := ⟨2, ![16384, 2]⟩
abbrev S16384x58 : Shape := ⟨2, ![16384, 58]⟩
abbrev S1x16384 : Shape := ⟨2, ![1, 16384]⟩
abbrev S63x16384 : Shape := ⟨2, ![63, 16384]⟩
abbrev S64x16384 : Shape := ⟨2, ![64, 16384]⟩
abbrev S512x16384 : Shape := ⟨2, ![512, 16384]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x5064, .f32⟩
  | .hbm, ⟨2, _⟩ => ⟨S1x64, .f32⟩
  | .hbm, ⟨3, _⟩ => ⟨S1x64, .f32⟩
  | .hbm, ⟨4, _⟩ => ⟨S16384x1024, .f32⟩
  | .hbm, ⟨5, _⟩ => ⟨S1024x5064, .f32⟩
  | .hbm, ⟨6, _⟩ => ⟨S1024x3016, .f32⟩
  | .hbm, ⟨7, _⟩ => ⟨S16384x3016, .f32⟩
  | .hbm, ⟨8, _⟩ => ⟨S16384x512, .f32⟩
  | .hbm, ⟨9, _⟩ => ⟨S16384x128, .f32⟩
  | .hbm, ⟨10, _⟩ => ⟨S16384x128, .f32⟩
  | .hbm, ⟨11, _⟩ => ⟨S16384x512, .f32⟩
  | .hbm, ⟨12, _⟩ => ⟨S16384x64, .f32⟩
  | .hbm, ⟨13, _⟩ => ⟨S16384x8, .f32⟩
  | .hbm, ⟨14, _⟩ => ⟨S16384x1664, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x64, .f32⟩
  | .hbm, ⟨39, _⟩ => ⟨S16384x64, .f32⟩
  | .hbm, ⟨40, _⟩ => ⟨S1x64, .f32⟩
  | .hbm, ⟨41, _⟩ => ⟨S16384x64, .f32⟩
  | .hbm, ⟨42, _⟩ => ⟨S16384x64, .f32⟩
  | .hbm, ⟨43, _⟩ => ⟨S1x64, .f32⟩
  | .hbm, ⟨44, _⟩ => ⟨S16384x64, .f32⟩
  | .hbm, ⟨45, _⟩ => ⟨S16384x64, .f32⟩
  | .hbm, ⟨46, _⟩ => ⟨S2048, .i32⟩
  | .hbm, ⟨47, _⟩ => ⟨S1x2048, .i32⟩
  | .hbm, ⟨48, _⟩ => ⟨S8x2048, .i32⟩
  | .hbm, ⟨49, _⟩ => ⟨S16384x1, .i32⟩
  | .hbm, ⟨50, _⟩ => ⟨S_, .i32⟩
  | .hbm, ⟨51, _⟩ => ⟨S16384x1, .i32⟩
  | .hbm, ⟨52, _⟩ => ⟨S16384x1, .i32⟩
  | .hbm, ⟨53, _⟩ => ⟨S16384x1, .i32⟩
  | .hbm, ⟨54, _⟩ => ⟨S16384x2, .i32⟩
  | .hbm, ⟨55, _⟩ => ⟨S16384x2, .f32⟩
  | .hbm, ⟨56, _⟩ => ⟨S_, .f32⟩
  | .hbm, ⟨57, _⟩ => ⟨S16384x58, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S16384x64, .f32⟩
  | .hbm, ⟨63, _⟩ => ⟨S16384x512, .f32⟩
  | .hbm, ⟨64, _⟩ => ⟨S_, .f32⟩
  | .hbm, ⟨65, _⟩ => ⟨S1x16384, .f32⟩
  | .hbm, ⟨66, _⟩ => ⟨S_, .f32⟩
  | .hbm, ⟨67, _⟩ => ⟨S63x16384, .f32⟩
  | .hbm, ⟨68, _⟩ => ⟨S64x16384, .f32⟩
  | .hbm, ⟨69, _⟩ => ⟨S16384x64, .f32⟩
  | .hbm, ⟨70, _⟩ => ⟨S64x16384, .f32⟩
  | .hbm, ⟨71, _⟩ => ⟨S16384x64, .f32⟩
  | .hbm, ⟨72, _⟩ => ⟨S64x16384, .f32⟩
  | .hbm, ⟨73, _⟩ => ⟨S512x16384, .f32⟩
  | .hbm, ⟨74, _⟩ => ⟨S16384x128, .f32⟩
  | .hbm, ⟨75, _⟩ => ⟨S_, .i32⟩
  | .hbm, ⟨76, _⟩ => ⟨S_, .f32⟩
  | .hbm, ⟨77, _⟩ => ⟨S16384x128, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S16384x512, .bf16⟩
  | .hbm, ⟨82, _⟩ => ⟨S16384x512, .bf16⟩
  | .hbm, ⟨83, _⟩ => ⟨S512x16384, .bf16⟩
  | .hbm, ⟨84, _⟩ => ⟨S16384x512, .bf16⟩
  | .hbm, ⟨85, _⟩ => ⟨S16384x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_7 : Ref sig .tc := ⟨.hbm, 75, rfl⟩
abbrev main_call0_v0 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Rwkv.lean ====
abbrev S16384x1664 : Shape := ⟨2, ![16384, 1664]⟩
abbrev S1x1664 : Shape := ⟨2, ![1, 1664]⟩
abbrev S1x512 : Shape := ⟨2, ![1, 512]⟩
abbrev S1x32x512 : Shape := ⟨3, ![1, 32, 512]⟩
abbrev S1x64x512 : Shape := ⟨3, ![1, 64, 512]⟩
abbrev S1x8x64 : Shape := ⟨3, ![1, 8, 64]⟩
abbrev S1664 : Shape := ⟨1, ![1664]⟩
abbrev S512 : Shape := ⟨1, ![512]⟩
abbrev S8x64 : Shape := ⟨2, ![8, 64]⟩
abbrev S32x512 : Shape := ⟨2, ![32, 512]⟩
abbrev S_ : Shape := ⟨0, ![]⟩
abbrev S128x512 : Shape := ⟨2, ![128, 512]⟩
abbrev S64x512 : Shape := ⟨2, ![64, 512]⟩
abbrev S8x2048x1664 : Shape := ⟨3, ![8, 2048, 1664]⟩
abbrev S8x2048x512 : Shape := ⟨3, ![8, 2048, 512]⟩
abbrev S2x256x1664 : Shape := ⟨3, ![2, 256, 1664]⟩
abbrev S2x256x512 : Shape := ⟨3, ![2, 256, 512]⟩
abbrev S8x128x128 : Shape := ⟨3, ![8, 128, 128]⟩
abbrev S2x8x1664 : Shape := ⟨3, ![2, 8, 1664]⟩
abbrev S32x128x128 : Shape := ⟨3, ![32, 128, 128]⟩
abbrev S32x128x384 : Shape := ⟨3, ![32, 128, 384]⟩
abbrev S32x256x128 : Shape := ⟨3, ![32, 256, 128]⟩
abbrev S32x128x256 : Shape := ⟨3, ![32, 128, 256]⟩
abbrev S256x256 : Shape := ⟨2, ![256, 256]⟩
abbrev S128x128 : Shape := ⟨2, ![128, 128]⟩
abbrev S64x128 : Shape := ⟨2, ![64, 128]⟩
abbrev S256x1664 : Shape := ⟨2, ![256, 1664]⟩
abbrev S1x256x1664 : Shape := ⟨3, ![1, 256, 1664]⟩
abbrev S1x1x1664 : Shape := ⟨3, ![1, 1, 1664]⟩
abbrev S8x1664 : Shape := ⟨2, ![8, 1664]⟩
abbrev S1x8x1664 : Shape := ⟨3, ![1, 8, 1664]⟩
abbrev S256x512 : Shape := ⟨2, ![256, 512]⟩
abbrev S256x128 : Shape := ⟨2, ![256, 128]⟩
abbrev S1x128 : Shape := ⟨2, ![1, 128]⟩
abbrev S1x256x128 : Shape := ⟨3, ![1, 256, 128]⟩
abbrev S32x256x256 : Shape := ⟨3, ![32, 256, 256]⟩
abbrev S1x128x128 : Shape := ⟨3, ![1, 128, 128]⟩
abbrev S8x256x128 : Shape := ⟨3, ![8, 256, 128]⟩
abbrev S8x128x256 : Shape := ⟨3, ![8, 128, 256]⟩
abbrev S8x128x384 : Shape := ⟨3, ![8, 128, 384]⟩
abbrev S1x1x128 : Shape := ⟨3, ![1, 1, 128]⟩
abbrev S8x1x128 : Shape := ⟨3, ![8, 1, 128]⟩
abbrev S1x64x128 : Shape := ⟨3, ![1, 64, 128]⟩

abbrev nBuf : Space → Nat
  | .hbm => 46
  | .vmem => 22
  | .smem => 0
  | _ => 0

abbrev bufTy : (tb : Table) → Fin (tcTables nBuf tb) → BufTy
  | .hbm, ⟨0, _⟩ => ⟨S16384x1664, .f32⟩
  | .hbm, ⟨1, _⟩ => ⟨S1x1664, .f32⟩
  | .hbm, ⟨2, _⟩ => ⟨S1x512, .f32⟩
  | .hbm, ⟨3, _⟩ => ⟨S1x32x512, .f32⟩
  | .hbm, ⟨4, _⟩ => ⟨S1x512, .f32⟩
  | .hbm, ⟨5, _⟩ => ⟨S1x32x512, .f32⟩
  | .hbm, ⟨6, _⟩ => ⟨S1x64x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S1x512, .f32⟩
  | .hbm, ⟨11, _⟩ => ⟨S1x512, .f32⟩
  | .hbm, ⟨12, _⟩ => ⟨S1664, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S8x64, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S1x1664, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S32x512, .f32⟩
  | .hbm, ⟨30, _⟩ => ⟨S_, .i32⟩
  | .hbm, ⟨31, _⟩ => ⟨S_, .f32⟩
  | .hbm, ⟨32, _⟩ => ⟨S128x512, .f32⟩
  | .hbm, ⟨33, _⟩ => ⟨S32x512, .f32⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S64x512, .f32⟩
  | .hbm, ⟨38, _⟩ => ⟨S_, .i32⟩
  | .hbm, ⟨39, _⟩ => ⟨S_, .f32⟩
  | .hbm, ⟨40, _⟩ => ⟨S128x512, .f32⟩
  | .hbm, ⟨41, _⟩ => ⟨S8x2048x1664, .f32⟩
  | .hbm, ⟨42, _⟩ => ⟨S128x512, .bf16⟩
  | .hbm, ⟨43, _⟩ => ⟨S128x512, .bf16⟩
  | .hbm, ⟨44, _⟩ => ⟨S128x512, .bf16⟩
  | .hbm, ⟨45, _⟩ => ⟨S8x2048x512, .bf16⟩
  | .local _ .vmem, ⟨0, _⟩ => ⟨S2x256x1664, .f32⟩
  | .local _ .vmem, ⟨1, _⟩ => ⟨S2x256x1664, .f32⟩
  | .local _ .vmem, ⟨2, _⟩ => ⟨S1x1664, .f32⟩
  | .local _ .vmem, ⟨3, _⟩ => ⟨S1x512, .f32⟩
  | .local _ .vmem, ⟨4, _⟩ => ⟨S128x512, .bf16⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S2x256x512, .bf16⟩
  | .local _ .vmem, ⟨14, _⟩ => ⟨S2x256x512, .bf16⟩
  | .local _ .vmem, ⟨15, _⟩ => ⟨S8x128x128, .f32⟩
  | .local _ .vmem, ⟨16, _⟩ => ⟨S2x8x1664, .f32⟩
  | .local _ .vmem, ⟨17, _⟩ => ⟨S32x128x128, .bf16⟩
  | .local _ .vmem, ⟨18, _⟩ => ⟨S32x128x384, .f32⟩
  | .local _ .vmem, ⟨19, _⟩ => ⟨S32x256x128, .bf16⟩
  | .local _ .vmem, ⟨20, _⟩ => ⟨S32x128x256, .bf16⟩
  | .local _ .vmem, ⟨21, _⟩ => ⟨S2x256x512, .f32⟩
  | _, _ => ⟨S16384x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.Ffn.Spec.lean ====
module

public import Idealize.ShloMosaic.Lib.Pointwise

/-! The feed-forward block with its layer norm, written over plain functions of extended reals: the mathematics both
    programs are compared with. No program is mentioned here. -/

@[expose] public section

noncomputable section
open Idealize.ShloMosaic
namespace FfnSpec

/-- The number of features, 1024, as the programs write it. -/
abbrev width : EReal := Ideal.ofBits .f32 0x44800000#32
/-- The layer norm's small constant. -/
abbrev eps : EReal := Ideal.ofBits .f32 0x3727C5AC#32
/-- The residual's scale, the fourth root of two. -/
abbrev alpha : EReal := Ideal.ofBits .f32 0x3F9837F0#32

/-- The mean of a row. -/
def mean (f : Fin 1024 → EReal) : EReal := Ideal.div (∑ k, f k) width
/-- Layer norm of the row `f` at feature `l`, with scale `w` and shift `b` there. -/
def norm (f : Fin 1024 → EReal) (w b : EReal) (l : Fin 1024) : EReal :=
  (f l - mean f) * Ideal.rsqrt (Ideal.div (∑ k, (f k - mean f) * (f k - mean f)) width + eps) * w + b
/-- Entry `(R, j)` of the up-projection. -/
def up {n : ℕ} (h : Fin n → Fin 1024 → EReal) (w : Fin 1024 → Fin 5632 → EReal) (R : Fin n) (j : Fin 5632) : EReal :=
  ∑ k, h R k * w k j
/-- Three taps and a bias: `u2` two rows back, `u1` one row back, `u0` the row itself. -/
def taps (k0 k1 k2 b u2 u1 u0 : EReal) : EReal := k0 * u2 + k1 * u1 + k2 * u0 + b
/-- The gated product. -/
def gated (a b : EReal) : EReal := a * Ideal.logistic a * b
/-- Column `j` of the second half of the up-projection. -/
abbrev hi (j : Fin 2816) : Fin 5632 := ⟨2816 + j.val, by omega⟩
/-- Column `j` of the first half of the up-projection. -/
abbrev lo (j : Fin 2816) : Fin 5632 := ⟨j.val, by omega⟩
/-- Row `l` of the residual sum `alpha · h + act · w`. -/
def resid (h : Fin 1024 → EReal) (act : Fin 2816 → EReal) (w : Fin 2816 → Fin 1024 → EReal) (l : Fin 1024) : EReal :=
  alpha * h l + ∑ j, act j * w j l

/-- The causal convolution at row `R` of eight sequences of 2048 rows: rows before a sequence's start count as zero. -/
def conv (h : Fin 16384 → Fin 1024 → EReal) (w : Fin 1024 → Fin 5632 → EReal) (k : Fin 3 → Fin 5632 → EReal)
    (b : Fin 5632 → EReal) (R : Fin 16384) (j : Fin 5632) : EReal :=
  taps (k 0 j) (k 1 j) (k 2 j) (b j)
    (if R.val % 2048 < 2 then 0 else up h w ⟨R.val - 2, by omega⟩ j)
    (if R.val % 2048 < 1 then 0 else up h w ⟨R.val - 1, by omega⟩ j)
    (up h w R j)

/-- THE BLOCK at row `R` and feature `l`. -/
def out (h : Fin 16384 → Fin 1024 → EReal) (w : Fin 1024 → Fin 5632 → EReal) (k : Fin 3 → Fin 5632 → EReal)
    (b : Fin 5632 → EReal) (wd : Fin 2816 → Fin 1024 → EReal) (lw lb : Fin 1024 → EReal) (R : Fin 16384) (l : Fin 1024) : EReal :=
  norm (resid (h R) (fun j => gated (conv h w k b R (lo j)) (conv h w k b R (hi j))) wd) (lw l) (lb l) l

end FfnSpec
-- ==== Proof.Ffn.Tile.lean ====
module

public import proofs.«01_k».proof.Proof.Gen.FfnIdeal.Value
public import proofs.«01_k».proof.Proof.Ffn.Spec

/-! What one column chunk of one row tile of the feed-forward kernel computes: the up-projection of the tile, the
    three-tap causal convolution over the tile's rows preceded by eight carried rows, and the gated product. -/

@[expose] public section

set_option maxRecDepth 16384

noncomputable section
open Idealize.ShloMosaic Idealize.ShloMosaic.TcCoe Idealize.SL.Sem
namespace Cert.FfnIdeal.Tile
open Cert.FfnIdeal Cert.FfnIdeal.Gen

/-- The up-projection of a row tile onto 256 columns. -/
def tileUp (x : FVec Ideal S512x1024 .bf16) (w : FVec Ideal S1024x256 .bf16) : FVec Ideal S512x256 .f32 :=
  matmul dot_S512x1024_S1024x256_S512x256_1_0_0_1_n_n none x (shapeCast S1024x256 w shapeCasts_S1024x256_S1024x256)
    (constant S512x256 .f32 0x00000000#32)

/-- The tile's rows moved down by `a` rows, the carried rows entering at the top. -/
def tileShift (a : BitVec 32) (u : FVec Ideal S512x256 .f32) (p : FVec Ideal S8x256 .f32) : FVec Ideal S512x256 .f32 :=
  extractStridedSlice S512x256 ![8, 0]
    (dynamicRotate 0 a none (concatenate S520x256 0 [⟨S8x256, p⟩, ⟨S512x256, u⟩] concatenates_S8x256_S512x256_S520x256_d0)
      rotates_S520x256_d0) slices_S520x256_o8_0_S512x256

/-- The three-tap convolution of the tile's up-projection, with its bias. -/
def tileConv (x : FVec Ideal S512x1024 .bf16) (w : FVec Ideal S1024x256 .bf16) (p : FVec Ideal S8x256 .f32)
    (k : FVec Ideal S3x256 .f32) (b : FVec Ideal S1x256 .f32) : FVec Ideal S512x256 .f32 :=
  addf (addf (addf
    (mulf (broadcastTo S512x256 (extractStridedSlice S1x256 ![0, 0] (shapeCast S3x256 k shapeCasts_S3x256_S3x256) slices_S3x256_o0_0_S1x256) broadcasts_S1x256_S512x256)
      (tileShift 2#32 (tileUp x w) p))
    (mulf (broadcastTo S512x256 (extractStridedSlice S1x256 ![1, 0] (shapeCast S3x256 k shapeCasts_S3x256_S3x256) slices_S3x256_o1_0_S1x256) broadcasts_S1x256_S512x256)
      (tileShift 1#32 (tileUp x w) p)))
    (mulf (broadcastTo S512x256 (extractStridedSlice S1x256 ![2, 0] (shapeCast S3x256 k shapeCasts_S3x256_S3x256) slices_S3x256_o2_0_S1x256) broadcasts_S1x256_S512x256)
      (tileUp x w)))
    (broadcastTo S512x256 (shapeCast S1x256 b shapeCasts_S1x256_S1x256) broadcasts_S1x256_S512x256)

/-- The gated product of two convolved chunks. -/
def tileAct (x : FVec Ideal S512x1024 .bf16)
    (w : FVec Ideal S1024x256 .bf16) (p : FVec Ideal S8x256 .f32) (k : FVec Ideal S3x256 .f32) (b : FVec Ideal S1x256 .f32)
    (w' : FVec Ideal S1024x256 .bf16) (p' : FVec Ideal S8x256 .f32) (k' : FVec Ideal S3x256 .f32) (b' : FVec Ideal S1x256 .f32) :
    FVec Ideal S512x256 .bf16 :=
  shapeCast S512x256 (truncf .bf16 (mulf (mulf (tileConv x w p k b) (logistic (tileConv x w p k b))) (tileConv x w' p' k' b'))
    bitsLt_bf16_f32) shapeCasts_S512x256_S512x256

/-- A chunk of the up-projection at an index. -/
theorem tileUp_at (x : FVec Ideal S512x1024 .bf16) (w : FVec Ideal S1024x256 .bf16) (r : Fin 512) (l : Fin 256) :
    tileUp x w (ix2 r l) = ∑ k : Fin 1024, x (ix2 r k) * w (ix2 k l) := by
  pointwise [tileUp]

/-- The shift by one position at an index. -/
theorem shift1_at (u : FVec Ideal S512x256 .f32) (p : FVec Ideal S8x256 .f32) (r : Fin 512) (l : Fin 256) :
    tileShift 1#32 u p (ix2 r l) = if h : r.val < 1 then p (ix2 7 l) else u (ix2 ⟨r.val - 1, by omega⟩ l) := by
  pointwise [tileShift]
  have e : (8 + r.val + 520 - 1) % 520 = 7 + r.val := by omega
  by_cases h : r.val < 1
  · rw [dif_pos (by omega), dif_pos h]
    exact congrArg (fun i => p (ix2 i l)) (Fin.ext (by show (8 + r.val + 520 - 1) % 520 = 7; omega))
  · rw [dif_neg (by omega), dif_neg h]
    exact congrArg (fun i => u (ix2 i l)) (Fin.ext (by show (8 + r.val + 520 - 1) % 520 - 8 = r.val - 1; omega))

/-- The shift by two positions at an index. -/
theorem shift2_at (u : FVec Ideal S512x256 .f32) (p : FVec Ideal S8x256 .f32) (r : Fin 512) (l : Fin 256) :
    tileShift 2#32 u p (ix2 r l) = if h : r.val < 2 then p (ix2 ⟨6 + r.val, by omega⟩ l) else u (ix2 ⟨r.val - 2, by omega⟩ l) := by
  pointwise [tileShift]
  have e : (8 + r.val + 520 - 2) % 520 = 6 + r.val := by omega
  by_cases h : r.val < 2
  · rw [dif_pos (by omega), dif_pos h]
    exact congrArg (fun i => p (ix2 i l)) (Fin.ext (by show (8 + r.val + 520 - 2) % 520 = 6 + r.val; omega))
  · rw [dif_neg (by omega), dif_neg h]
    exact congrArg (fun i => u (ix2 i l)) (Fin.ext (by show (8 + r.val + 520 - 2) % 520 - 8 = r.val - 2; omega))

/-! ## The same over the whole width -/

/-- Entry `(r, j)` of a tile's up-projection. -/
def blkUp (x : FVec Ideal S512x1024 .f32) (W : FVec Ideal S1024x5632 .bf16) (r : Fin 512) (j : Fin 5632) : EReal :=
  FfnSpec.up (fun r k => x (ix2 r k)) (fun k j => W (ix2 k j)) r j

/-- Entry `(r, j)` of a tile's convolution, `P` the eight rows before the tile. -/
def blkConv (x : FVec Ideal S512x1024 .f32) (W : FVec Ideal S1024x5632 .bf16) (P : FVec Ideal S8x5632 .f32)
    (K : FVec Ideal S3x5632 .f32) (B : FVec Ideal S1x5632 .f32) (r : Fin 512) (j : Fin 5632) : EReal :=
  FfnSpec.taps (K (ix2 0 j)) (K (ix2 1 j)) (K (ix2 2 j)) (B (ix2 0 j))
    (if h : r.val < 2 then P (ix2 ⟨6 + r.val, by omega⟩ j) else blkUp x W ⟨r.val - 2, by omega⟩ j)
    (if h : r.val < 1 then P (ix2 7 j) else blkUp x W ⟨r.val - 1, by omega⟩ j)
    (blkUp x W r j)

/-- Entry `(r, j)` of a tile's gated product. -/
def blkAct (x : FVec Ideal S512x1024 .f32) (W : FVec Ideal S1024x5632 .bf16) (P : FVec Ideal S8x5632 .f32)
    (K : FVec Ideal S3x5632 .f32) (B : FVec Ideal S1x5632 .f32) (r : Fin 512) (j : Fin 2816) : EReal :=
  FfnSpec.gated (blkConv x W P K B r (FfnSpec.lo j)) (blkConv x W P K B r (FfnSpec.hi j))

/-- A chunk's convolution is the tile's at the chunk's columns. -/
theorem tileConv_at (x : FVec Ideal S512x1024 .f32) (W : FVec Ideal S1024x5632 .bf16) (P : FVec Ideal S8x5632 .f32)
    (K : FVec Ideal S3x5632 .f32) (B : FVec Ideal S1x5632 .f32) (j : Fin 256 → Fin 5632)
    (x' : FVec Ideal S512x1024 .bf16) (w : FVec Ideal S1024x256 .bf16) (p : FVec Ideal S8x256 .f32) (k : FVec Ideal S3x256 .f32)
    (b : FVec Ideal S1x256 .f32)
    (hx : ∀ r k, x' (ix2 r k) = x (ix2 r k)) (hw : ∀ a l, w (ix2 a l) = W (ix2 a (j l))) (hp : ∀ a l, p (ix2 a l) = P (ix2 a (j l)))
    (hk : ∀ a l, k (ix2 a l) = K (ix2 a (j l))) (hb : ∀ a l, b (ix2 a l) = B (ix2 a (j l))) (r : Fin 512) (l : Fin 256) :
    tileConv x' w p k b (ix2 r l) = blkConv x W P K B r (j l) := by
  pointwise [tileConv, shift1_at, shift2_at, tileUp_at]
  simp only [hx, hw, hp, hk, hb]
  rfl

/-- A chunk's gated product is the tile's at the chunk's columns. -/
theorem tileAct_at (x : FVec Ideal S512x1024 .f32) (W : FVec Ideal S1024x5632 .bf16) (P : FVec Ideal S8x5632 .f32)
    (K : FVec Ideal S3x5632 .f32) (B : FVec Ideal S1x5632 .f32) (j : Fin 256 → Fin 2816)
    (x' : FVec Ideal S512x1024 .bf16) (w : FVec Ideal S1024x256 .bf16) (p : FVec Ideal S8x256 .f32) (k : FVec Ideal S3x256 .f32)
    (b : FVec Ideal S1x256 .f32)
    (w' : FVec Ideal S1024x256 .bf16) (p' : FVec Ideal S8x256 .f32) (k' : FVec Ideal S3x256 .f32) (b' : FVec Ideal S1x256 .f32)
    (hx : ∀ r k, x' (ix2 r k) = x (ix2 r k))
    (hw : ∀ a l, w (ix2 a l) = W (ix2 a (FfnSpec.lo (j l)))) (hp : ∀ a l, p (ix2 a l) = P (ix2 a (FfnSpec.lo (j l))))
    (hk : ∀ a l, k (ix2 a l) = K (ix2 a (FfnSpec.lo (j l)))) (hb : ∀ a l, b (ix2 a l) = B (ix2 a (FfnSpec.lo (j l))))
    (hw' : ∀ a l, w' (ix2 a l) = W (ix2 a (FfnSpec.hi (j l)))) (hp' : ∀ a l, p' (ix2 a l) = P (ix2 a (FfnSpec.hi (j l))))
    (hk' : ∀ a l, k' (ix2 a l) = K (ix2 a (FfnSpec.hi (j l)))) (hb' : ∀ a l, b' (ix2 a l) = B (ix2 a (FfnSpec.hi (j l))))
    (r : Fin 512) (l : Fin 256) : tileAct x' w p k b w' p' k' b' (ix2 r l) = blkAct x W P K B r (j l) := by
  pointwise [tileAct]
  rw [tileConv_at x W P K B (fun l => FfnSpec.lo (j l)) x' w p k b hx hw hp hk hb,
    tileConv_at x W P K B (fun l => FfnSpec.hi (j l)) x' w' p' k' b' hx hw' hp' hk' hb']
  rfl

/-- The rest of the body: residual and layer norm of a tile whose gated product is `A`. -/
theorem norm_at (x : FVec Ideal S512x1024 .f32) (w : FVec Ideal S1x1024 .f32) (b : FVec Ideal S1x1024 .f32)
    (A : FVec Ideal S512x2816 .bf16) (wd : FVec Ideal S2816x1024 .bf16) (act : Fin 512 → Fin 2816 → EReal)
    (hA : ∀ r k, A (ix2 r k) = act r k) (r : Fin 512) (l : Fin 1024) :
    k0_pay1 (F := Ideal) (k0_pay103 w) (k0_pay104 b) (k0_pay105 x A wd) (k0_pay106 x A wd) k0_pay107 (ix2 r l)
      = FfnSpec.norm (FfnSpec.resid (fun k => x (ix2 r k)) (act r) (fun k l => wd (ix2 k l))) (w (ix2 0 l)) (b (ix2 0 l)) l := by
  unfold_payloads
  pointwise [hA]
  rfl

end Cert.FfnIdeal.Tile
-- ==== Proof.Ffn.Body.lean ====
module

public import proofs.«01_k».proof.Proof.Ffn.Tile
public import Idealize.ShloMosaic.Lib.Pipeline.ValueKit
public import Idealize.ShloMosaic.Lib.Pipeline.ReadBack

/-! What the body leaves at one grid point: the eight rows it carries on, and its output tile. -/

@[expose] public section

set_option maxRecDepth 16384

noncomputable section
open Idealize.ShloMosaic Idealize.ShloMosaic.TcCoe Idealize.SL.Sem
open Idealize.ShloMosaic.Pipeline (Dat)
namespace Cert.FfnIdeal.Value
open Cert.FfnIdeal Cert.FfnIdeal.Gen Cert.FfnIdeal.Tile
/-- Stores that cover an index leave there what they leave alone, whatever was stored before them. -/
theorem canon_of_covered {S : Shape} {e : EltTy} : ∀ (L L' : List (View.Piece (Elt Ideal) S e)) (y : S.Idx),
    (∃ p ∈ L, y ∈ p.1.set) → View.canon (L ++ L') y = View.canon L y
  | [], _, _, h => by obtain ⟨p, hp, _⟩ := h; exact absurd hp List.not_mem_nil
  | p :: L, L', y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_of_covered L L' y ?_
      obtain ⟨q, hq, hy⟩ := h
      rcases List.mem_cons.mp hq with rfl | hq
      · exact absurd hy hm
      · exact ⟨q, hq, hy⟩

/-- So the earliest store is not seen where the later ones tile the buffer. -/
theorem canon_dropLast {S : Shape} {e : EltTy} (sz : Fin S.rank → ℕ) (L : List (View.Piece (Elt Ideal) S e))
    (h : View.Piece.tiled L.dropLast sz = true) (y : S.Idx) : View.canon L y = View.canon L.dropLast y := by
  obtain ⟨p, hp, hy⟩ := View.cover_of_tiled L.dropLast sz h y
  have hne : L ≠ [] := by rintro rfl; exact absurd hp List.not_mem_nil
  conv_lhs => rw [← List.dropLast_append_getLast hne]
  exact canon_of_covered _ _ _ ⟨p, hp, hy⟩

variable (m : (ℓ : Loc nD τ sig) → Buf (Elt Ideal) ℓ)

/-- A covered read of the whole gated-product buffer is the buffer's contents. -/
theorem whole_at {sp} (v : View sig .tc sp S512x2816 .bf16) (L : List (View.Piece (Elt Ideal) S512x2816 .bf16)) (inb)
    (y : S512x2816.Idx) : v.readCov L (Rect.unit (s := S512x2816) ![0, 0] ![512, 2816] inb).toLoadRect y = View.canon L y := by
  rw [View.readCov_eq_canon']
  refine congrArg (View.canon L) (funext fun a => Fin.ext ?_)
  fin_cases a <;> exact (Nat.zero_add _).trans (Nat.one_mul _)

/-- 256 columns of a block, from column `off` on, as the body loads them. -/
abbrev cols {n : ℕ} {e : EltTy} (W : Vec Ideal ⟨2, ![n, 5632]⟩ e) (off : ℕ)
    (inb : ∀ a, (![0, off] : Fin 2 → ℕ) a + (![n, 256] : Fin 2 → ℕ) a ≤ (⟨2, ![n, 5632]⟩ : Shape).size a) : Vec Ideal ⟨2, ![n, 256]⟩ e :=
  View.ld (Val := Elt Ideal) W (Rect.unit (s := ⟨2, ![n, 5632]⟩) ![0, off] ![n, 256] inb)

/-- Column `l` of them is column `off + l` of the block. -/
theorem cols_at {n : ℕ} {e : EltTy} (W : Vec Ideal ⟨2, ![n, 5632]⟩ e) (off : ℕ) (inb) (a : Fin n) (l : Fin 256) (j : Fin 5632)
    (hj : j.val = off + l.val) : cols W off inb (ix2 a l) = W (ix2 a j) :=
  View.ld_unit_apply_of W _ _ _ _ _ (fun b => by fin_cases b; exact (Nat.zero_add _).symm; exact hj)

/-- The last eight rows of a chunk's up-projection, as the body stores them. -/
def tilePrev (x : FVec Ideal S512x1024 .bf16) (w : FVec Ideal S1024x256 .bf16) : FVec Ideal S8x256 .f32 :=
  shapeCast S8x256 (extractStridedSlice S8x256 ![504, 0] (tileUp x w) slices_S512x256_o504_0_S8x256) shapeCasts_S8x256_S8x256

/-- They are the tile's at the chunk's columns. -/
theorem tilePrev_at (x : FVec Ideal S512x1024 .f32) (W : FVec Ideal S1024x5632 .bf16) (x' : FVec Ideal S512x1024 .bf16)
    (hx : ∀ r k, x' (ix2 r k) = x (ix2 r k)) (off : ℕ) (inb) (i : S8x256.Idx) (q : Fin 8) (j : Fin 5632)
    (h0 : q.val = (i 0).val) (h1 : j.val = off + (i 1).val) :
    tilePrev x' (cols (n := 1024) (e := .bf16) W off inb) i = blkUp x W ⟨504 + q.val, by omega⟩ j := by
  idx_vars i
  try simp only [ix2_0, ix2_1] at h0 h1
  obtain rfl : q = i0 := Fin.ext h0
  pointwise [tilePrev, tileUp_at, blkUp, FfnSpec.up]
  refine Finset.sum_congr rfl fun k _ => ?_
  exact congrArg₂ (· * ·) (hx _ _) (cols_at (n := 1024) (e := .bf16) W off inb k i1 j h1)

set_option maxHeartbeats 2000000 in
/-- The carried rows after a point: the last eight rows of the tile's up-projection. -/
theorem prev_at (c : Dev nD) (t : Fin cfg0.N) (q : Fin 8) (j : Fin 5632) : (outsAt0 m c t.val t.isLt).2 (ix2 q j)
    = blkUp (iblk m c 0 t) (iblk m c 1 t) ⟨504 + q.val, by omega⟩ j := by
  by_cases hb : t.val % 4 = 0
  · rw [outsAt0_A m c t hb]
    frame_open
    simp (disch := decide) only [↓ View.readCov_skip, ↓ View.readCov_cons_toLoadRect, ↓ View.readCov_fill]
    frame_out
    refine (canon_dropLast ![8, 256] _ (by rfl) _).trans ?_
    simp only [List.dropLast]
    clear hb
    canon_tiles x h
    all_goals exact tilePrev_at (iblk m c 0 t) (iblk m c 1 t) (k0_pay2 (iblk m c 0 t)) (fun _ _ => rfl) _ _ x q j h0 (h1.trans (by first | rfl | exact (Nat.zero_add _).symm))
  · rw [outsAt0_B m c t hb]
    frame_open
    simp (disch := decide) only [↓ View.readCov_skip, ↓ View.readCov_cons_toLoadRect, ↓ View.readCov_fill]
    frame_out
    clear hb
    canon_tiles x h
    all_goals exact tilePrev_at (iblk m c 0 t) (iblk m c 1 t) (k0_pay2 (iblk m c 0 t)) (fun _ _ => rfl) _ _ x q j h0 (h1.trans (by first | rfl | exact (Nat.zero_add _).symm))

/-- A chunk's gated product is the tile's at the chunk's columns: `off` the chunk's first column in the first half, `off'` in the second. -/
theorem piece_at (x : FVec Ideal S512x1024 .f32) (W : FVec Ideal S1024x5632 .bf16) (P : FVec Ideal S8x5632 .f32)
    (K : FVec Ideal S3x5632 .f32) (B : FVec Ideal S1x5632 .f32) (x' : FVec Ideal S512x1024 .bf16)
    (hx : ∀ r k, x' (ix2 r k) = x (ix2 r k)) (off off' : ℕ) (ho : off' = 2816 + off) (i1 i2 i3 i4 i1' i2' i3' i4')
    (i : S512x256.Idx) (r : Fin 512) (j : Fin 2816) (h0 : r.val = (i 0).val) (h1 : j.val = off + (i 1).val) :
    tileAct x' (cols (n := 1024) (e := .bf16) W off i1) (cols (n := 8) (e := .f32) P off i2) (cols (n := 3) (e := .f32) K off i3)
      (cols (n := 1) (e := .f32) B off i4) (cols (n := 1024) (e := .bf16) W off' i1') (cols (n := 8) (e := .f32) P off' i2')
      (cols (n := 3) (e := .f32) K off' i3') (cols (n := 1) (e := .f32) B off' i4') i = blkAct x W P K B r j := by
  idx_vars i
  try simp only [ix2_0, ix2_1] at h0 h1
  obtain rfl : r = i0 := Fin.ext h0
  have hoff : off + 256 ≤ 2816 := by have := i1' 1; simp at this; omega
  have ej : j = ⟨off + i1.val, by omega⟩ := Fin.ext h1
  rw [ej]
  have a : ∀ l : Fin 256, off + l.val < 2816 := fun l => by omega
  exact tileAct_at x W P K B (fun l => ⟨off + l.val, a l⟩) x' _ _ _ _ _ _ _ _ hx
    (fun _ l => cols_at (n := 1024) (e := .bf16) W _ _ _ _ _ rfl) (fun _ l => cols_at (n := 8) (e := .f32) P _ _ _ _ _ rfl) (fun _ l => cols_at (n := 3) (e := .f32) K _ _ _ _ _ rfl)
    (fun _ l => cols_at (n := 1) (e := .f32) B _ _ _ _ _ rfl) (fun _ l => cols_at (n := 1024) (e := .bf16) W _ _ _ _ _ (by simp only [ho]; omega)) (fun _ l => cols_at (n := 8) (e := .f32) P _ _ _ _ _ (by simp only [ho]; omega))
    (fun _ l => cols_at (n := 3) (e := .f32) K _ _ _ _ _ (by simp only [ho]; omega)) (fun _ l => cols_at (n := 1) (e := .f32) B _ _ _ _ _ (by simp only [ho]; omega)) r _

set_option maxHeartbeats 2000000 in
/-- The output tile of a point that is not a sequence's first, from its blocks and the carried rows. -/
theorem out_at_B (c : Dev nD) (t : Fin cfg0.N) (hb : ¬ t.val % 4 = 0) (r : Fin 512) (l : Fin 1024) :
    (outsAt0 m c t.val t.isLt).1 (ix2 r l)
      = FfnSpec.norm (FfnSpec.resid (fun k => iblk m c 0 t (ix2 r k))
          (blkAct (iblk m c 0 t) (iblk m c 1 t) (outsAt0 m c (t.val - 1) (Nat.lt_of_le_of_lt (Nat.sub_le _ _) t.isLt)).2
            (iblk m c 2 t) (iblk m c 3 t) r)
          (fun k l => iblk m c 4 t (ix2 k l))) (iblk m c 5 t (ix2 0 l)) (iblk m c 6 t (ix2 0 l)) l := by
  rw [outsAt0_B m c t hb]
  frame_open
  simp (disch := decide) only [↓ View.readCov_skip, ↓ View.readCov_cons_toLoadRect, ↓ View.readCov_fill]
  frame_out
  simp only [read_unread_whole]
  refine norm_at _ _ _ _ _ _ (fun r k => ?_) r l
  rw [whole_at]
  clear hb
  canon_tiles x h
  all_goals exact piece_at (iblk m c 0 t) (iblk m c 1 t) _ (iblk m c 2 t) (iblk m c 3 t) (k0_pay2 (iblk m c 0 t)) (fun _ _ => rfl) _ _ rfl _ _ _ _ _ _ _ _ x r k h0 (h1.trans (by first | rfl | exact (Nat.zero_add _).symm))

set_option maxHeartbeats 2000000 in
/-- The output tile of a sequence's first point, from its blocks: the carried rows are zero. -/
theorem out_at_A (c : Dev nD) (t : Fin cfg0.N) (hb : t.val % 4 = 0) (r : Fin 512) (l : Fin 1024) :
    (outsAt0 m c t.val t.isLt).1 (ix2 r l)
      = FfnSpec.norm (FfnSpec.resid (fun k => iblk m c 0 t (ix2 r k))
          (blkAct (iblk m c 0 t) (iblk m c 1 t) (k0_pay3 (F := Ideal)) (iblk m c 2 t) (iblk m c 3 t) r)
          (fun k l => iblk m c 4 t (ix2 k l))) (iblk m c 5 t (ix2 0 l)) (iblk m c 6 t (ix2 0 l)) l := by
  rw [outsAt0_A m c t hb]
  frame_open
  simp (disch := decide) only [↓ View.readCov_skip, ↓ View.readCov_cons_toLoadRect, ↓ View.readCov_fill]
  frame_out
  refine norm_at _ _ _ _ _ _ (fun r k => ?_) r l
  rw [whole_at]
  clear hb
  canon_tiles x h
  all_goals exact piece_at (iblk m c 0 t) (iblk m c 1 t) _ (iblk m c 2 t) (iblk m c 3 t) (k0_pay2 (iblk m c 0 t)) (fun _ _ => rfl) _ _ rfl _ _ _ _ _ _ _ _ x r k h0 (h1.trans (by first | rfl | exact (Nat.zero_add _).symm))

end Cert.FfnIdeal.Value
-- ==== Proof.Ffn.Final.lean ====
module

public import proofs.«01_k».proof.Proof.Ffn.Body

/-! The feed-forward kernel's result array: the block of Spec.lean over the argument arrays. -/

@[expose] public section

set_option maxRecDepth 16384

noncomputable section
open Idealize.ShloMosaic Idealize.ShloMosaic.TcCoe Idealize.SL.Sem
open Idealize.ShloMosaic.Pipeline (Dat)
namespace Cert.FfnIdeal.Value
open Cert.FfnIdeal Cert.FfnIdeal.Gen Cert.FfnIdeal.Tile
variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- The input rows. -/
abbrev inH (c : Dev nD) (R : Fin 16384) (k : Fin 1024) : EReal := m ((c : Thread nD τ).loc main_arg0) (ix2 R k)
/-- The up-projection's weight. -/
abbrev inW (c : Dev nD) (k : Fin 1024) (j : Fin 5632) : EReal := m ((c : Thread nD τ).loc main_arg1) (ix3 0 k j)
/-- The convolution's taps. -/
abbrev inK (c : Dev nD) (a : Fin 3) (j : Fin 5632) : EReal := m ((c : Thread nD τ).loc main_arg2) (ix3 0 a j)
/-- The convolution's bias. -/
abbrev inB (c : Dev nD) (j : Fin 5632) : EReal := m ((c : Thread nD τ).loc main_arg3) (ix2 0 j)
/-- The down-projection's weight. -/
abbrev inD (c : Dev nD) (k : Fin 2816) (l : Fin 1024) : EReal := m ((c : Thread nD τ).loc main_arg4) (ix3 0 k l)
/-- The layer norm's scale. -/
abbrev inLw (c : Dev nD) (l : Fin 1024) : EReal := m ((c : Thread nD τ).loc main_arg5) (ix2 0 l)
/-- The layer norm's shift. -/
abbrev inLb (c : Dev nD) (l : Fin 1024) : EReal := m ((c : Thread nD τ).loc main_arg6) (ix2 0 l)

/-- Row `r` of tile `t`. -/
abbrev row (t : Fin cfg0.N) (r : Fin 512) : Fin 16384 := ⟨t.val * 512 + r.val, by have : t.val < 32 := t.isLt; omega⟩

/-- Rows of the input. -/
theorem blk0 (c : Dev nD) (t : Fin cfg0.N) (r : Fin 512) (k : Fin 1024) : iblk m c 0 t (ix2 r k) = inH m c (row t r) k := by
  blk_simp [iblk, V, idx t]
  blk_ext [idx t]
/-- The up-projection. -/
theorem blk1 (c : Dev nD) (t : Fin cfg0.N) (k : Fin 1024) (j : Fin 5632) : iblk m c 1 t (ix2 k j) = inW m c k j := by
  blk_simp [iblk, idx t]
  entry_read
  pointwise
  blk_ext [idx t]
/-- The convolution's taps. -/
theorem blk2 (c : Dev nD) (t : Fin cfg0.N) (k : Fin 3) (j : Fin 5632) : iblk m c 2 t (ix2 k j) = inK m c k j := by
  blk_simp [iblk, idx t]
  entry_read
  pointwise
  blk_ext [idx t]
/-- The convolution's bias. -/
theorem blk3 (c : Dev nD) (t : Fin cfg0.N) (j : Fin 5632) : iblk m c 3 t (ix2 0 j) = inB m c j := by
  blk_simp [iblk, idx t]
  entry_read
  pointwise
  blk_ext [idx t]
/-- The down-projection. -/
theorem blk4 (c : Dev nD) (t : Fin cfg0.N) (k : Fin 2816) (l : Fin 1024) : iblk m c 4 t (ix2 k l) = inD m c k l := by
  blk_simp [iblk, idx t]
  entry_read
  pointwise
  blk_ext [idx t]
/-- The layer norm's scale. -/
theorem blk5 (c : Dev nD) (t : Fin cfg0.N) (l : Fin 1024) : iblk m c 5 t (ix2 0 l) = inLw m c l := by
  blk_simp [iblk, idx t]
  entry_read
  pointwise
  blk_ext [idx t]
/-- The layer norm's shift. -/
theorem blk6 (c : Dev nD) (t : Fin cfg0.N) (l : Fin 1024) : iblk m c 6 t (ix2 0 l) = inLb m c l := by
  blk_simp [iblk, idx t]
  entry_read
  pointwise
  blk_ext [idx t]

/-- A tile's up-projection is the array's at the tile's rows. -/
theorem blkUp_row (c : Dev nD) (t : Fin cfg0.N) (r : Fin 512) (j : Fin 5632) :
    blkUp (iblk m c 0 t) (iblk m c 1 t) r j = FfnSpec.up (inH m c) (inW m c) (row t r) j := by
  simp only [blkUp, blk0, blk1]
  rfl

/-- A tile's convolution is the array's, where the carried rows are the two rows before the tile or, at a sequence's start, zero. -/
theorem blkConv_row (c : Dev nD) (t : Fin cfg0.N) (P : FVec Ideal S8x5632 .f32)
    (hA : t.val % 4 = 0 → ∀ q j, P (ix2 q j) = 0)
    (hB : (h : ¬ t.val % 4 = 0) → ∀ (q : Fin 8) j, P (ix2 q j) = FfnSpec.up (inH m c) (inW m c)
      ⟨t.val * 512 - 8 + q.val, by have : t.val < 32 := t.isLt; omega⟩ j) (r : Fin 512) (j : Fin 5632) :
    blkConv (iblk m c 0 t) (iblk m c 1 t) P (iblk m c 2 t) (iblk m c 3 t) r j
      = FfnSpec.conv (inH m c) (inW m c) (inK m c) (inB m c) (row t r) j := by
  have ht : t.val < 32 := t.isLt
  unfold blkConv FfnSpec.conv
  simp only [blk2, blk3, blkUp_row]
  congr 1
  · by_cases h2 : r.val < 2
    · rw [dif_pos h2]
      by_cases h : t.val % 4 = 0
      · rw [if_pos (by show (t.val * 512 + r.val) % 2048 < 2; omega), hA h]
      · rw [if_neg (by show ¬ (t.val * 512 + r.val) % 2048 < 2; omega), hB h]
        exact congrArg (fun i => FfnSpec.up _ _ i j) (Fin.ext (by show t.val * 512 - 8 + (6 + r.val) = t.val * 512 + r.val - 2; omega))
    · rw [dif_neg h2, if_neg (by show ¬ (t.val * 512 + r.val) % 2048 < 2; omega)]
      exact congrArg (fun i => FfnSpec.up _ _ i j) (Fin.ext (by show t.val * 512 + (r.val - 2) = t.val * 512 + r.val - 2; omega))
  · by_cases h2 : r.val < 1
    · rw [dif_pos h2]
      by_cases h : t.val % 4 = 0
      · rw [if_pos (by show (t.val * 512 + r.val) % 2048 < 1; omega), hA h]
      · rw [if_neg (by show ¬ (t.val * 512 + r.val) % 2048 < 1; omega), hB h]
        exact congrArg (fun i => FfnSpec.up _ _ i j) (Fin.ext (by show t.val * 512 - 8 + 7 = t.val * 512 + r.val - 1; omega))
    · rw [dif_neg h2, if_neg (by show ¬ (t.val * 512 + r.val) % 2048 < 1; omega)]
      exact congrArg (fun i => FfnSpec.up _ _ i j) (Fin.ext (by show t.val * 512 + (r.val - 1) = t.val * 512 + r.val - 1; omega))

/-- The result array, as one function of the argument arrays. -/
def result (c : Dev nD) : FVec Ideal S16384x1024 .f32 := fun i =>
  FfnSpec.out (inH m c) (inW m c) (inK m c) (inB m c) (inD m c) (inLw m c) (inLb m c) (i 0) (i 1)

/-- The output tile of any point holds the block's rows. -/
theorem out_at (c : Dev nD) (t : Fin cfg0.N) (r : Fin 512) (l : Fin 1024) :
    (outsAt0 m c t.val t.isLt).1 (ix2 r l) = result m c (ix2 (row t r) l) := by
  have ht : t.val < 32 := t.isLt
  have key : ∃ P, (outsAt0 m c t.val t.isLt).1 (ix2 r l)
      = FfnSpec.norm (FfnSpec.resid (fun k => iblk m c 0 t (ix2 r k))
          (blkAct (iblk m c 0 t) (iblk m c 1 t) P (iblk m c 2 t) (iblk m c 3 t) r)
          (fun k l => iblk m c 4 t (ix2 k l))) (iblk m c 5 t (ix2 0 l)) (iblk m c 6 t (ix2 0 l)) l
      ∧ ∀ j, blkConv (iblk m c 0 t) (iblk m c 1 t) P (iblk m c 2 t) (iblk m c 3 t) r j
        = FfnSpec.conv (inH m c) (inW m c) (inK m c) (inB m c) (row t r) j := by
    by_cases h : t.val % 4 = 0
    · refine ⟨_, out_at_A m c t h r l, fun j => blkConv_row m c t _ (fun _ q j => ?_) (fun h' => absurd h h') r j⟩
      pointwise [k0_pay3]
    · refine ⟨_, out_at_B m c t h r l, fun j => blkConv_row m c t _ (fun h' => absurd h' h) (fun _ q j => ?_) r j⟩
      refine (prev_at m c ⟨t.val - 1, by omega⟩ q j).trans ((blkUp_row m c _ _ j).trans ?_)
      exact congrArg (fun i => FfnSpec.up _ _ i j) (Fin.ext (by show (t.val - 1) * 512 + (504 + q.val) = t.val * 512 - 8 + q.val; omega))
  obtain ⟨P, h, hc⟩ := key
  rw [h]
  simp only [blk0, blk4, blk5, blk6]
  unfold result FfnSpec.out blkAct
  simp only [hc]
  rfl

/-- THE RESULT ARRAY after the run. -/
theorem final (c : Dev nD) : (dats m 0 c).arrAt 7 cfg0.N = result m c := by
  refine (dats m 0 c).arrAt_eq_of_covers 7 _ (by decide +kernel) fun t _ y => ?_
  blk_simp
  rw [after0_7]
  idx_vars y
  refine (out_at m c t y0 y1).trans ?_
  refine congrArg (result m c) ?_
  blk_simp [idx t]
  blk_ext [idx t]

end Cert.FfnIdeal.Value
-- ==== Proof.Ffn.Ref.lean ====
module

public import proofs.«01_k».proof.Proof.Gen.FfnRefIdeal.Run
public import proofs.«01_k».proof.Proof.Ffn.Spec

/-! What the reference of the feed-forward block computes: its run's term in named stages, each read at an index, and
    the block of Spec.lean. -/

@[expose] public section

set_option maxRecDepth 16384

noncomputable section
open Idealize.ShloMosaic Idealize.ShloMosaic.TcCoe Idealize.SL.Sem
namespace Cert.FfnRefIdeal.Stage
open Cert.FfnRefIdeal Cert.FfnRefIdeal.Gen

/-- The up-projection of every sequence. -/
def upR (h : FVec Ideal S16384x1024 .f32) (w : FVec Ideal S1x1024x5632 .f32) : FVec Ideal S8x2048x5632 .f32 :=
  Host.dotGeneral dot_S8x2048x1024_S1024x5632_S8x2048x5632_2_0_01_1_n_n none
    (shapeCast S8x2048x1024 h shapeCasts_S16384x1024_S8x2048x1024) (shapeCast S1024x5632 w shapeCasts_S1x1024x5632_S1024x5632)

/-- A feature row at every position. -/
def rowR (k : FVec Ideal S5632 .f32) : FVec Ideal S8x2048x5632 .f32 :=
  broadcastInDim S8x2048x5632 ![0, 1, 2] bcast_S1x1x5632_S8x2048x5632_0_1_2 (broadcastInDim S1x1x5632 ![2] bcast_S5632_S1x1x5632_2 k)

/-- Positions one later, zero entering at a sequence's start. -/
def shift1R (u : FVec Ideal S8x2048x5632 .f32) : FVec Ideal S8x2048x5632 .f32 :=
  pad S8x2048x5632 ![0, 1, 0] ![0, 0, 0] ![0, 0, 0] (extractStridedSlice S8x2047x5632 ![0, 0, 0] u slices_S8x2048x5632_S8x2047x5632_0_0_0)
    (sitofp .f32 (constantI S_ 32 0#32)) pads_S8x2047x5632_S8x2048x5632_000_100_000 h_S_

/-- Positions two later. -/
def shift2R (u : FVec Ideal S8x2048x5632 .f32) : FVec Ideal S8x2048x5632 .f32 :=
  pad S8x2048x5632 ![0, 2, 0] ![0, 0, 0] ![0, 0, 0] (extractStridedSlice S8x2046x5632 ![0, 0, 0] u slices_S8x2048x5632_S8x2046x5632_0_0_0)
    (sitofp .f32 (constantI S_ 32 0#32)) pads_S8x2046x5632_S8x2048x5632_000_200_000 h_S_

/-- The convolution with its bias. -/
def convR (u : FVec Ideal S8x2048x5632 .f32) (k : FVec Ideal S1x3x5632 .f32) (b : FVec Ideal S1x5632 .f32) : FVec Ideal S8x2048x5632 .f32 :=
  addf (addf (addf
    (mulf (rowR (shapeCast S5632 (extractStridedSlice S1x5632 ![0, 0] (shapeCast S3x5632 k shapeCasts_S1x3x5632_S3x5632) slices_S3x5632_S1x5632_0_0) shapeCasts_S1x5632_S5632)) (shift2R u))
    (mulf (rowR (shapeCast S5632 (extractStridedSlice S1x5632 ![1, 0] (shapeCast S3x5632 k shapeCasts_S1x3x5632_S3x5632) slices_S3x5632_S1x5632_1_0) shapeCasts_S1x5632_S5632)) (shift1R u)))
    (mulf (rowR (shapeCast S5632 (extractStridedSlice S1x5632 ![2, 0] (shapeCast S3x5632 k shapeCasts_S1x3x5632_S3x5632) slices_S3x5632_S1x5632_2_0) shapeCasts_S1x5632_S5632)) u))
    (rowR (shapeCast S5632 b shapeCasts_S1x5632_S5632))

/-- `x · sigmoid x`. -/
def siluR (x : FVec Ideal S8x2048x2816 .f32) : FVec Ideal S8x2048x2816 .f32 :=
  mulf x (Host.divf (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf x))))

/-- The gated product. -/
def actR (v : FVec Ideal S8x2048x5632 .f32) : FVec Ideal S8x2048x2816 .f32 :=
  mulf (siluR (extractStridedSlice S8x2048x2816 ![0, 0, 0] v slices_S8x2048x5632_S8x2048x2816_0_0_0))
    (extractStridedSlice S8x2048x2816 ![0, 0, 2816] v slices_S8x2048x5632_S8x2048x2816_0_0_2816)

/-- The residual sum. -/
def residR (h : FVec Ideal S16384x1024 .f32) (a : FVec Ideal S8x2048x2816 .f32) (w : FVec Ideal S1x2816x1024 .f32) : FVec Ideal S8x2048x1024 .f32 :=
  addf (mulf (broadcastInDim S8x2048x1024 ![] bcast_S_S8x2048x1024 (constant S_ .f32 0x3F9837F0#32)) (shapeCast S8x2048x1024 h shapeCasts_S16384x1024_S8x2048x1024))
    (Host.dotGeneral dot_S8x2048x2816_S2816x1024_S8x2048x1024_2_0_01_1_n_n none a (shapeCast S2816x1024 w shapeCasts_S1x2816x1024_S2816x1024))

/-- The mean over the features, at every position. -/
def meanR (x : FVec Ideal S8x2048x1024 .f32) : FVec Ideal S8x2048x1 .f32 :=
  Host.divf (broadcastInDim S8x2048x1 ![0, 1] bcast_S8x2048_S8x2048x1_0_1
      (Host.reduceAdd x (constant S_ .f32 0x00000000#32) reducesTo_S8x2048x1024_S8x2048_d2 h_S_))
    (broadcastInDim S8x2048x1 ![] bcast_S_S8x2048x1 (constant S_ .f32 0x44800000#32))

/-- The deviation from the mean. -/
def devR (x : FVec Ideal S8x2048x1024 .f32) : FVec Ideal S8x2048x1024 .f32 :=
  subf x (broadcastInDim S8x2048x1024 ![0, 1, 2] bcast_S8x2048x1_S8x2048x1024_0_1_2 (meanR x))

/-- Layer norm. -/
def normR (x : FVec Ideal S8x2048x1024 .f32) (w b : FVec Ideal S1x1024 .f32) : FVec Ideal S8x2048x1024 .f32 :=
  addf (mulf (mulf (devR x) (broadcastInDim S8x2048x1024 ![0, 1, 2] bcast_S8x2048x1_S8x2048x1024_0_1_2
      (Host.rsqrt (addf (meanR (mulf (devR x) (devR x))) (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 (shapeCast S1024 w shapeCasts_S1x1024_S1024))))
    (broadcastInDim S8x2048x1024 ![0, 1, 2] bcast_S1x1x1024_S8x2048x1024_0_1_2 (broadcastInDim S1x1x1024 ![2] bcast_S1024_S1x1x1024_2 (shapeCast S1024 b shapeCasts_S1x1024_S1024)))

/-- The whole reference. -/
def allR (h : FVec Ideal S16384x1024 .f32) (w : FVec Ideal S1x1024x5632 .f32) (k : FVec Ideal S1x3x5632 .f32) (b : FVec Ideal S1x5632 .f32)
    (wd : FVec Ideal S1x2816x1024 .f32) (lw lb : FVec Ideal S1x1024 .f32) : FVec Ideal S16384x1024 .f32 :=
  shapeCast S16384x1024 (normR (residR h (actR (convR (upR h w) k b)) wd) lw lb) shapeCasts_S8x2048x1024_S16384x1024

/-- The reference's run leaves this. -/
theorem res_eq (m : (ℓ : Loc nD τ sig) → Buf (Elt Ideal) ℓ) (c : Dev nD) : Value.res_out0 m c
    = allR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

/-- Position `(s, p)` as a row. -/
abbrev flat (s : Fin 8) (p : Fin 2048) : Fin 16384 := ⟨s.val * 2048 + p.val, by omega⟩

/-- The up-projection at an index. -/
theorem upR_at (h : FVec Ideal S16384x1024 .f32) (w : FVec Ideal S1x1024x5632 .f32) (s : Fin 8) (p : Fin 2048) (j : Fin 5632) :
    upR h w (ix3 s p j) = FfnSpec.up (fun R k => h (ix2 R k)) (fun k j => w (ix3 0 k j)) (flat s p) j := by
  pointwise [upR, FfnSpec.up]

/-- The padding value is zero. -/
theorem sitofp_zero : (FloatOps.sitofp FTy.f32 0#32 : Ideal .f32) = (0 : EReal) := by
  show (((0#32 : BitVec 32).toInt : ℝ) : EReal) = 0
  simp

/-- The convolution at an index. -/
theorem convR_at (h : FVec Ideal S16384x1024 .f32) (w : FVec Ideal S1x1024x5632 .f32) (k : FVec Ideal S1x3x5632 .f32) (b : FVec Ideal S1x5632 .f32) (s : Fin 8) (p : Fin 2048) (j : Fin 5632) :
    convR (upR h w) k b (ix3 s p j)
      = FfnSpec.conv (fun R k => h (ix2 R k)) (fun k j => w (ix3 0 k j)) (fun a j => k (ix3 0 a j)) (fun j => b (ix2 0 j)) (flat s p) j := by
  pointwise [convR, shift1R, shift2R, rowR, upR_at]
  simp only [sitofp_zero]
  unfold FfnSpec.conv FfnSpec.taps
  congr 4
  · by_cases h2 : p.val < 2
    · rw [dif_neg (by omega), if_pos (by show (s.val * 2048 + p.val) % 2048 < 2; omega)]
    · rw [dif_pos (by omega), if_neg (by show ¬ (s.val * 2048 + p.val) % 2048 < 2; omega)]
      exact congrArg (fun i => FfnSpec.up _ _ i j) (Fin.ext (by show s.val * 2048 + (p.val - 2) = s.val * 2048 + p.val - 2; omega))
  · by_cases h2 : p.val < 1
    · rw [dif_neg (by omega), if_pos (by show (s.val * 2048 + p.val) % 2048 < 1; omega)]
    · rw [dif_pos (by omega), if_neg (by show ¬ (s.val * 2048 + p.val) % 2048 < 1; omega)]
      exact congrArg (fun i => FfnSpec.up _ _ i j) (Fin.ext (by show s.val * 2048 + (p.val - 1) = s.val * 2048 + p.val - 1; omega))

/-- The gated product at an index. -/
theorem actR_at (v : FVec Ideal S8x2048x5632 .f32) (s : Fin 8) (p : Fin 2048) (j : Fin 2816) :
    actR v (ix3 s p j) = FfnSpec.gated (v (ix3 s p (FfnSpec.lo j))) (v (ix3 s p (FfnSpec.hi j))) := by
  pointwise [actR, siluR]
  rfl

/-- The residual sum at an index. -/
theorem residR_at (h : FVec Ideal S16384x1024 .f32) (a : FVec Ideal S8x2048x2816 .f32) (w : FVec Ideal S1x2816x1024 .f32) (s : Fin 8) (p : Fin 2048) (l : Fin 1024) :
    residR h a w (ix3 s p l) = FfnSpec.resid (fun k => h (ix2 (flat s p) k)) (fun j => a (ix3 s p j)) (fun k l => w (ix3 0 k l)) l := by
  pointwise [residR]
  rfl

/-- The layer norm at an index. -/
theorem normR_at (x : FVec Ideal S8x2048x1024 .f32) (w b : FVec Ideal S1x1024 .f32) (s : Fin 8) (p : Fin 2048) (l : Fin 1024) :
    normR x w b (ix3 s p l) = FfnSpec.norm (fun k => x (ix3 s p k)) (w (ix2 0 l)) (b (ix2 0 l)) l := by
  pointwise [normR, devR, meanR]
  rfl

/-- THE REFERENCE at a row and a feature is the block. -/
theorem allR_at (h : FVec Ideal S16384x1024 .f32) (w : FVec Ideal S1x1024x5632 .f32) (k : FVec Ideal S1x3x5632 .f32) (b : FVec Ideal S1x5632 .f32)
    (wd : FVec Ideal S1x2816x1024 .f32) (lw lb : FVec Ideal S1x1024 .f32) (R : Fin 16384) (l : Fin 1024) :
    allR h w k b wd lw lb (ix2 R l) = FfnSpec.out (fun R k => h (ix2 R k)) (fun k j => w (ix3 0 k j)) (fun a j => k (ix3 0 a j))
      (fun j => b (ix2 0 j)) (fun k l => wd (ix3 0 k l)) (fun l => lw (ix2 0 l)) (fun l => lb (ix2 0 l)) R l := by
  pointwise [allR]
  have e : flat ⟨R.val / 2048, by omega⟩ ⟨R.val % 2048, by omega⟩ = R := Fin.ext (by show R.val / 2048 * 2048 + R.val % 2048 = R.val; omega)
  simp only [normR_at, residR_at, actR_at, convR_at, e]
  rfl

end Cert.FfnRefIdeal.Stage
-- ==== Proof.Merge.Spec.lean ====
module

public import proofs.«01_k».proof.Proof.Ffn.Spec

/-! The gated merge of the two branches, its output projection and layer norm, over plain functions of extended reals.
    No program is mentioned here. -/

@[expose] public section

noncomputable section
open Idealize.ShloMosaic
namespace MergeSpec

/-- Row `x` times a weight, at column `l`. -/
def prod {n : ℕ} (x : Fin n → EReal) (w : Fin n → Fin 1024 → EReal) (l : Fin 1024) : EReal := ∑ k, x k * w k l
/-- The two branches, each under its sigmoid gate: `ga`, `gb` the gates' weights, `wa`, `wb` the branches'. -/
def mix (x : Fin 1024 → EReal) (ya yb : Fin 512 → EReal) (ga gb : Fin 1024 → Fin 1024 → EReal)
    (wa wb : Fin 512 → Fin 1024 → EReal) (j : Fin 1024) : EReal :=
  Ideal.logistic (prod x ga j) * prod ya wa j + Ideal.logistic (prod x gb j) * prod yb wb j
/-- The residual sum `alpha · x + mix · wo` at feature `l`. -/
def resid (x mx : Fin 1024 → EReal) (wo : Fin 1024 → Fin 1024 → EReal) (l : Fin 1024) : EReal :=
  FfnSpec.alpha * x l + prod mx wo l
/-- Column `j` of the first gate among the columns of the combined weight. -/
abbrev colA (j : Fin 1024) : Fin 5064 := ⟨3016 + j.val, by omega⟩
/-- Column `j` of the second gate. -/
abbrev colB (j : Fin 1024) : Fin 5064 := ⟨4040 + j.val, by omega⟩

/-- THE MERGE of one row at feature `l`, from the combined weight `w`. -/
def out (x : Fin 1024 → EReal) (ya yb : Fin 512 → EReal) (w : Fin 1024 → Fin 5064 → EReal)
    (wa wb : Fin 512 → Fin 1024 → EReal) (wo : Fin 1024 → Fin 1024 → EReal) (lw lb : Fin 1024 → EReal) (l : Fin 1024) : EReal :=
  FfnSpec.norm (resid x (mix x ya yb (fun k j => w k (colA j)) (fun k j => w k (colB j)) wa wb) wo) (lw l) (lb l) l

/-- The sequence a row lies in. -/
abbrev seq (R : Fin 16384) : Fin 8 := ⟨R.val / 2048, by omega⟩
/-- A row's position in its sequence. -/
abbrev pos (R : Fin 16384) : Fin 2048 := ⟨R.val % 2048, by omega⟩

end MergeSpec
-- ==== Proof.Merge.Final.lean ====
module

public import proofs.«01_k».proof.Proof.Gen.MergeIdeal.Value
public import proofs.«01_k».proof.Proof.Merge.Spec
public import Idealize.ShloMosaic.Lib.Pipeline.ValueKit

/-! The merge kernel: what one row tile computes, and the result array. -/

@[expose] public section

set_option maxRecDepth 16384

noncomputable section
open Idealize.ShloMosaic Idealize.ShloMosaic.TcCoe Idealize.SL.Sem
open Idealize.ShloMosaic.Pipeline (Dat)
namespace Cert.MergeIdeal.Value
open Cert.MergeIdeal Cert.MergeIdeal.Gen

/-- The body's payload at an entry of the tile, from the values it loads: the layer norm of the residual sum of the gated branches. -/
theorem pay_at (x : FVec Ideal S512x1024 .f32) (ga : FVec Ideal S1024x1024 .bf16) (ya : FVec Ideal S512x512 .bf16) (wa : FVec Ideal S512x1024 .bf16)
    (gb : FVec Ideal S1024x1024 .bf16) (yb : FVec Ideal S512x512 .bf16) (wb : FVec Ideal S512x1024 .bf16) (wo : FVec Ideal S1024x1024 .bf16)
    (lw lb : FVec Ideal S1x1024 .f32) (r : Fin 512) (l : Fin 1024) :
    k0_pay1 (F := Ideal) (k0_pay2 x ga ya wa gb yb wb wo) (k0_pay3 lw) lb (ix2 r l)
      = FfnSpec.norm (MergeSpec.resid (fun k => x (ix2 r k)) (MergeSpec.mix (fun k => x (ix2 r k)) (fun k => ya (ix2 r k)) (fun k => yb (ix2 r k))
          (fun k j => ga (ix2 k j)) (fun k j => gb (ix2 k j)) (fun k j => wa (ix2 k j)) (fun k j => wb (ix2 k j))) (fun k j => wo (ix2 k j)))
        (lw (ix2 0 l)) (lb (ix2 0 l)) l := by
  unfold_payloads
  pointwise
  rfl

/-- The same, where the loaded values are known functions. -/
theorem pay_of (x : FVec Ideal S512x1024 .f32) (ga : FVec Ideal S1024x1024 .bf16) (ya : FVec Ideal S512x512 .bf16) (wa : FVec Ideal S512x1024 .bf16)
    (gb : FVec Ideal S1024x1024 .bf16) (yb : FVec Ideal S512x512 .bf16) (wb : FVec Ideal S512x1024 .bf16) (wo : FVec Ideal S1024x1024 .bf16)
    (lw lb : FVec Ideal S1x1024 .f32) (r : Fin 512) (l : Fin 1024)
    (X : Fin 1024 → EReal) (Ya Yb : Fin 512 → EReal) (W : Fin 1024 → Fin 5064 → EReal)
    (Wa Wb : Fin 512 → Fin 1024 → EReal) (Wo : Fin 1024 → Fin 1024 → EReal) (Lw Lb : Fin 1024 → EReal)
    (hx : ∀ k, x (ix2 r k) = X k) (hya : ∀ k, ya (ix2 r k) = Ya k) (hyb : ∀ k, yb (ix2 r k) = Yb k)
    (hga : ∀ k j, ga (ix2 k j) = W k (MergeSpec.colA j)) (hgb : ∀ k j, gb (ix2 k j) = W k (MergeSpec.colB j))
    (hwa : ∀ k j, wa (ix2 k j) = Wa k j) (hwb : ∀ k j, wb (ix2 k j) = Wb k j) (hwo : ∀ k j, wo (ix2 k j) = Wo k j)
    (hlw : ∀ l, lw (ix2 0 l) = Lw l) (hlb : ∀ l, lb (ix2 0 l) = Lb l) :
    k0_pay1 (F := Ideal) (k0_pay2 x ga ya wa gb yb wb wo) (k0_pay3 lw) lb (ix2 r l) = MergeSpec.out X Ya Yb W Wa Wb Wo Lw Lb l := by
  rw [pay_at]
  simp only [hx, hya, hyb, hga, hgb, hwa, hwb, hwo, hlw, hlb]
  rfl

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

/-- The input rows. -/
abbrev inX (c : Dev nD) (R : Fin 16384) (k : Fin 1024) : EReal := m ((c : Thread nD τ).loc main_arg0) (ix3 (MergeSpec.seq R) (MergeSpec.pos R) k)
/-- The attention branch's rows. -/
abbrev inYa (c : Dev nD) (R : Fin 16384) (k : Fin 512) : EReal := m ((c : Thread nD τ).loc main_arg1) (ix3 (MergeSpec.seq R) (MergeSpec.pos R) k)
/-- The recurrent branch's rows. -/
abbrev inYb (c : Dev nD) (R : Fin 16384) (k : Fin 512) : EReal := m ((c : Thread nD τ).loc main_arg2) (ix3 (MergeSpec.seq R) (MergeSpec.pos R) k)
/-- The combined weight. -/
abbrev inW (c : Dev nD) (k : Fin 1024) (j : Fin 5064) : EReal := m ((c : Thread nD τ).loc main_arg3) (ix3 0 k j)
/-- The attention branch's weight. -/
abbrev inWa (c : Dev nD) (k : Fin 512) (j : Fin 1024) : EReal := m ((c : Thread nD τ).loc main_arg4) (ix3 0 k j)
/-- The recurrent branch's weight. -/
abbrev inWb (c : Dev nD) (k : Fin 512) (j : Fin 1024) : EReal := m ((c : Thread nD τ).loc main_arg5) (ix3 0 k j)
/-- The output weight. -/
abbrev inWo (c : Dev nD) (k j : Fin 1024) : EReal := m ((c : Thread nD τ).loc main_arg6) (ix3 0 k j)
/-- The layer norm's scale. -/
abbrev inLw (c : Dev nD) (l : Fin 1024) : EReal := m ((c : Thread nD τ).loc main_arg7) (ix2 0 l)
/-- The layer norm's shift. -/
abbrev inLb (c : Dev nD) (l : Fin 1024) : EReal := m ((c : Thread nD τ).loc main_arg8) (ix2 0 l)

/-- Row `r` of tile `t`. -/
abbrev row (t : Fin cfg0.N) (r : Fin 512) : Fin 16384 := ⟨t.val * 512 + r.val, by have : t.val < 32 := t.isLt; omega⟩

/-- Rows of the input. -/
theorem blk0 (c : Dev nD) (t : Fin cfg0.N) (r : Fin 512) (k : Fin 1024) : iblk m c 0 t (ix2 r k) = inX m c (row t r) k := by
  blk_simp [iblk, idx t]
  entry_read
  pointwise
  blk_ext [idx t]
/-- Rows of the first branch's output. -/
theorem blk1 (c : Dev nD) (t : Fin cfg0.N) (r : Fin 512) (k : Fin 512) : iblk m c 1 t (ix2 r k) = inYa m c (row t r) k := by
  blk_simp [iblk, idx t]
  entry_read
  pointwise
  blk_ext [idx t]
/-- Rows of the second branch's output. -/
theorem blk2 (c : Dev nD) (t : Fin cfg0.N) (r : Fin 512) (k : Fin 512) : iblk m c 2 t (ix2 r k) = inYb m c (row t r) k := by
  blk_simp [iblk, idx t]
  entry_read
  pointwise
  blk_ext [idx t]
/-- The gates' columns. -/
theorem blk3 (c : Dev nD) (t : Fin cfg0.N) (k : Fin 1024) (j : Fin 2048) : iblk m c 3 t (ix2 k j) = inW m c k ⟨3016 + j.val, by omega⟩ := by
  blk_simp [iblk, idx t]
  entry_read
  pointwise
  blk_ext [idx t]
/-- The first branch's projection. -/
theorem blk4 (c : Dev nD) (t : Fin cfg0.N) (k : Fin 512) (j : Fin 1024) : iblk m c 4 t (ix2 k j) = inWa m c k j := by
  blk_simp [iblk, idx t]
  entry_read
  pointwise
  blk_ext [idx t]
/-- The second branch's projection. -/
theorem blk5 (c : Dev nD) (t : Fin cfg0.N) (k : Fin 512) (j : Fin 1024) : iblk m c 5 t (ix2 k j) = inWb m c k j := by
  blk_simp [iblk, idx t]
  entry_read
  pointwise
  blk_ext [idx t]
/-- The output projection. -/
theorem blk6 (c : Dev nD) (t : Fin cfg0.N) (k j : Fin 1024) : iblk m c 6 t (ix2 k j) = inWo m c k j := by
  blk_simp [iblk, idx t]
  entry_read
  pointwise
  blk_ext [idx t]
/-- The layer norm's scale. -/
theorem blk7 (c : Dev nD) (t : Fin cfg0.N) (l : Fin 1024) : iblk m c 7 t (ix2 0 l) = inLw m c l := by
  blk_simp [iblk, idx t]
  entry_read
  pointwise
  blk_ext [idx t]
/-- The layer norm's shift. -/
theorem blk8 (c : Dev nD) (t : Fin cfg0.N) (l : Fin 1024) : iblk m c 8 t (ix2 0 l) = inLb m c l := by
  blk_simp [iblk, idx t]
  entry_read
  pointwise
  blk_ext [idx t]

/-- The result array, as one function of the argument arrays. -/
def result (c : Dev nD) : FVec Ideal S16384x1024 .f32 := fun i =>
  MergeSpec.out (inX m c (i 0)) (inYa m c (i 0)) (inYb m c (i 0)) (inW m c) (inWa m c) (inWb m c) (inWo m c) (inLw m c) (inLb m c) (i 1)

/-- The first gate's columns of the staged weight. -/
theorem ldA (c : Dev nD) (t : Fin cfg0.N) (k j : Fin 1024) : (View.ld (iblk m c 3 t) r0_1 : Vec Ideal S1024x1024 .bf16) (ix2 k j) = inW m c k (MergeSpec.colA j) := by
  refine (View.ld_unit_apply_of (iblk m c 3 t) _ _ _ _ (ix2 k ⟨j.val, by omega⟩) (fun b => by fin_cases b <;> exact (Nat.zero_add _).symm)).trans ?_
  exact blk3 m c t k _
/-- The second gate's columns. -/
theorem ldB (c : Dev nD) (t : Fin cfg0.N) (k j : Fin 1024) : (View.ld (iblk m c 3 t) r0_3 : Vec Ideal S1024x1024 .bf16) (ix2 k j) = inW m c k (MergeSpec.colB j) := by
  refine (View.ld_unit_apply_of (iblk m c 3 t) _ _ _ _ (ix2 k ⟨1024 + j.val, by omega⟩) (fun b => by fin_cases b; exact (Nat.zero_add _).symm; rfl)).trans ?_
  refine (blk3 m c t k _).trans (congrArg (inW m c k) (Fin.ext ?_))
  show 3016 + (1024 + j.val) = 4040 + j.val
  omega

/-! A load of a whole block is the block. -/

/-- A load of the whole block is the block. -/
theorem ld_S512x1024 {e : EltTy} (X : Vec Ideal S512x1024 e) : View.ld (Val := Elt Ideal) X r0_0 = X :=
  View.ld_unit_zero (funext fun a => by fin_cases a <;> rfl) _ X
/-- A load of the whole block is the block. -/
theorem ld_S512x512 {e : EltTy} (X : Vec Ideal S512x512 e) : View.ld (Val := Elt Ideal) X r0_2 = X :=
  View.ld_unit_zero (funext fun a => by fin_cases a <;> rfl) _ X
/-- A load of the whole block is the block. -/
theorem ld_S1024x1024 {e : EltTy} (X : Vec Ideal S1024x1024 e) : View.ld (Val := Elt Ideal) X r0_4 = X :=
  View.ld_unit_zero (funext fun a => by fin_cases a <;> rfl) _ X
/-- A load of the whole block is the block. -/
theorem ld_S1x1024 {e : EltTy} (X : Vec Ideal S1x1024 e) : View.ld (Val := Elt Ideal) X r0_5 = X :=
  View.ld_unit_zero (funext fun a => by fin_cases a <;> rfl) _ X

/-- The output tile of a point holds the merge of its rows. -/
theorem out_at (c : Dev nD) (t : Fin cfg0.N) (r : Fin 512) (l : Fin 1024) :
    out0_9 (iblk m c 0 t) (iblk m c 1 t) (iblk m c 2 t) (iblk m c 3 t) (iblk m c 4 t) (iblk m c 5 t) (iblk m c 6 t) (iblk m c 7 t) (iblk m c 8 t) (ix2 r l)
      = result m c (ix2 (row t r) l) := by
  unfold out0_9
  canon_tiles x h
  idx_vars x
  obtain rfl : r = x0 := Fin.ext h0
  obtain rfl : l = x1 := Fin.ext h1
  rw [ld_S512x1024, ld_S512x1024, ld_S512x1024, ld_S512x512, ld_S512x512, ld_S1024x1024, ld_S1x1024, ld_S1x1024]
  exact pay_of _ _ _ _ _ _ _ _ _ _ r l _ _ _ _ _ _ _ _ _ (blk0 m c t r) (blk1 m c t r) (blk2 m c t r) (ldA m c t) (ldB m c t)
    (blk4 m c t) (blk5 m c t) (blk6 m c t) (blk7 m c t) (blk8 m c t)

/-- THE RESULT ARRAY after the run. -/
theorem final (c : Dev nD) : (dats m 0 c).arrAt 9 cfg0.N = result m c := by
  refine (dats m 0 c).arrAt_eq_of_covers 9 _ (by decide +kernel) fun t _ y => ?_
  blk_simp
  rw [after0_9]
  idx_vars y
  refine (out_at m c t y0 y1).trans ?_
  refine congrArg (result m c) ?_
  blk_simp [idx t]
  blk_ext [idx t]

end Cert.MergeIdeal.Value
-- ==== Proof.Merge.Ref.lean ====
module

public import proofs.«01_k».proof.Proof.Gen.MergeRefIdeal.Run
public import proofs.«01_k».proof.Proof.Merge.Spec
public import proofs.«01_k».proof.Proof.Ffn.Ref

/-! What the merge's reference computes: its run's term in named stages, and the merge of Spec.lean. -/

@[expose] public section

set_option maxRecDepth 16384

noncomputable section
open Idealize.ShloMosaic Idealize.ShloMosaic.TcCoe Idealize.SL.Sem
namespace Cert.MergeRefIdeal.Stage
open Cert.MergeRefIdeal Cert.MergeRefIdeal.Gen

/-- The first gate before its sigmoid. -/
def gateA (x : FVec Ideal S8x2048x1024 .f32) (w : FVec Ideal S1x1024x5064 .f32) : FVec Ideal S8x2048x1024 .f32 :=
  Host.dotGeneral dot_S8x2048x1024_S1024x1024_S8x2048x1024_2_0_01_1_n_n none x
    (extractStridedSlice S1024x1024 ![0, 3016] (shapeCast S1024x5064 w shapeCasts_S1x1024x5064_S1024x5064) slices_S1024x5064_S1024x1024_0_3016)
/-- The second gate before its sigmoid. -/
def gateB (x : FVec Ideal S8x2048x1024 .f32) (w : FVec Ideal S1x1024x5064 .f32) : FVec Ideal S8x2048x1024 .f32 :=
  Host.dotGeneral dot_S8x2048x1024_S1024x1024_S8x2048x1024_2_0_01_1_n_n none x
    (extractStridedSlice S1024x1024 ![0, 4040] (shapeCast S1024x5064 w shapeCasts_S1x1024x5064_S1024x5064) slices_S1024x5064_S1024x1024_0_4040)
/-- The sigmoid. -/
def sigR (x : FVec Ideal S8x2048x1024 .f32) : FVec Ideal S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf x)))
/-- A branch's projection. -/
def branchR (y : FVec Ideal S8x2048x512 .bf16) (w : FVec Ideal S1x512x1024 .f32) : FVec Ideal S8x2048x1024 .f32 :=
  Host.dotGeneral dot_S8x2048x512_S512x1024_S8x2048x1024_2_0_01_1_n_n none (extf .f32 y bitsLt_bf16_f32)
    (shapeCast S512x1024 w shapeCasts_S1x512x1024_S512x1024)
/-- The gated sum of the branches. -/
def mixR (x : FVec Ideal S8x2048x1024 .f32) (ya yb : FVec Ideal S8x2048x512 .bf16) (w : FVec Ideal S1x1024x5064 .f32)
    (wa wb : FVec Ideal S1x512x1024 .f32) : FVec Ideal S8x2048x1024 .f32 :=
  addf (mulf (sigR (gateA x w)) (branchR ya wa)) (mulf (sigR (gateB x w)) (branchR yb wb))
/-- The residual sum. -/
def residR (x a : FVec Ideal S8x2048x1024 .f32) (w : FVec Ideal S1x1024x1024 .f32) : FVec Ideal S8x2048x1024 .f32 :=
  addf (mulf (broadcastInDim S8x2048x1024 ![] bcast_S_S8x2048x1024 (constant S_ .f32 0x3F9837F0#32)) x)
    (Host.dotGeneral dot_S8x2048x1024_S1024x1024_S8x2048x1024_2_0_01_1_n_n none a (shapeCast S1024x1024 w shapeCasts_S1x1024x1024_S1024x1024))
/-- The whole reference; its layer norm is the feed-forward block's. -/
def allR (x : FVec Ideal S8x2048x1024 .f32) (ya yb : FVec Ideal S8x2048x512 .bf16) (w : FVec Ideal S1x1024x5064 .f32)
    (wa wb : FVec Ideal S1x512x1024 .f32) (wo : FVec Ideal S1x1024x1024 .f32) (lw lb : FVec Ideal S1x1024 .f32) : FVec Ideal S16384x1024 .f32 :=
  shapeCast S16384x1024 (Cert.FfnRefIdeal.Stage.normR (residR x (mixR x ya yb w wa wb) wo) lw lb) shapeCasts_S8x2048x1024_S16384x1024

/-- The reference's run leaves this. -/
theorem res_eq (m : (ℓ : Loc nD τ sig) → Buf (Elt Ideal) ℓ) (c : Dev nD) : Value.res_out0 m c
    = allR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- The gated sum at an index. -/
theorem mixR_at (x : FVec Ideal S8x2048x1024 .f32) (ya yb : FVec Ideal S8x2048x512 .bf16) (w : FVec Ideal S1x1024x5064 .f32)
    (wa wb : FVec Ideal S1x512x1024 .f32) (s : Fin 8) (p : Fin 2048) (j : Fin 1024) :
    mixR x ya yb w wa wb (ix3 s p j) = MergeSpec.mix (fun k => x (ix3 s p k)) (fun k => ya (ix3 s p k)) (fun k => yb (ix3 s p k))
      (fun k j => w (ix3 0 k (MergeSpec.colA j))) (fun k j => w (ix3 0 k (MergeSpec.colB j))) (fun k j => wa (ix3 0 k j)) (fun k j => wb (ix3 0 k j)) j := by
  pointwise [mixR, sigR, gateA, gateB, branchR]
  rfl

/-- The residual sum at an index. -/
theorem residR_at (x a : FVec Ideal S8x2048x1024 .f32) (w : FVec Ideal S1x1024x1024 .f32) (s : Fin 8) (p : Fin 2048) (l : Fin 1024) :
    residR x a w (ix3 s p l) = MergeSpec.resid (fun k => x (ix3 s p k)) (fun j => a (ix3 s p j)) (fun k l => w (ix3 0 k l)) l := by
  pointwise [residR]
  rfl

/-- THE REFERENCE at a row and a feature is the merge of the row. -/
theorem allR_at (x : FVec Ideal S8x2048x1024 .f32) (ya yb : FVec Ideal S8x2048x512 .bf16) (w : FVec Ideal S1x1024x5064 .f32)
    (wa wb : FVec Ideal S1x512x1024 .f32) (wo : FVec Ideal S1x1024x1024 .f32) (lw lb : FVec Ideal S1x1024 .f32) (R : Fin 16384) (l : Fin 1024) :
    allR x ya yb w wa wb wo lw lb (ix2 R l)
      = MergeSpec.out (fun k => x (ix3 (MergeSpec.seq R) (MergeSpec.pos R) k)) (fun k => ya (ix3 (MergeSpec.seq R) (MergeSpec.pos R) k))
        (fun k => yb (ix3 (MergeSpec.seq R) (MergeSpec.pos R) k)) (fun k j => w (ix3 0 k j)) (fun k j => wa (ix3 0 k j)) (fun k j => wb (ix3 0 k j))
        (fun k j => wo (ix3 0 k j)) (fun l => lw (ix2 0 l)) (fun l => lb (ix2 0 l)) l := by
  pointwise [allR]
  simp only [Cert.FfnRefIdeal.Stage.normR_at, residR_at, mixR_at]
  rfl

end Cert.MergeRefIdeal.Stage
-- ==== Proof.Inproj.Spec.lean ====
module

public import proofs.«01_k».proof.Proof.Merge.Spec
public import Idealize.ShloMosaic.Lib.Pipeline.ValueKit

/-! The input projections with the indexer key's layer norm, over plain functions of extended reals. No program is
    mentioned here. -/

@[expose] public section

noncomputable section
open Idealize.ShloMosaic
namespace InprojSpec

/-- Column `j` of the projection of row `x`. -/
def proj (x : Fin 1024 → EReal) (w : Fin 1024 → Fin 5064 → EReal) (j : Fin 5064) : EReal := ∑ k, x k * w k j

/-- The softmax scale in base two, as the programs write it. -/
abbrev scale : EReal := Ideal.ofBits .f32 0x3E38AA3B#32
/-- The layer norm's small constant. -/
abbrev eps : EReal := Ideal.ofBits .f32 0x3727C5AC#32

/-- The mean of 64 numbers. -/
def mean (f : Fin 64 → EReal) : EReal := Ideal.div (∑ k, f k) (Ideal.ofBits .f32 0x42800000#32)
/-- Layer norm over 64 features. -/
def norm (f : Fin 64 → EReal) (w b : EReal) (l : Fin 64) : EReal :=
  (f l - mean f) * Ideal.rsqrt (mean (fun k => (f k - mean f) * (f k - mean f)) + eps) * w + b

/-- The bits of 64. -/
theorem ofBits_64 : Ideal.ofBits .f32 0x42800000#32 = ((64 : ℝ) : EReal) := by simp [Ideal.ofBits, Ideal.ieee]; rw [← EReal.coe_mul]; norm_num
/-- The bits of 128. -/
theorem ofBits_128 : Ideal.ofBits .f32 0x43000000#32 = ((128 : ℝ) : EReal) := by simp [Ideal.ofBits, Ideal.ieee]; rw [← EReal.coe_mul]; norm_num

/-- Twice a sum over 128 is the sum over 64. -/
theorem half (S : EReal) : Ideal.div (S + S) (Ideal.ofBits .f32 0x43000000#32) = Ideal.div S (Ideal.ofBits .f32 0x42800000#32) := by
  rw [ofBits_64, ofBits_128, Ideal.div_coe (by norm_num), Ideal.div_coe (by norm_num)]
  induction S using EReal.rec with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe x => norm_cast; ring

/-- The mean of 64 numbers, each taken twice. -/
theorem mean_twice (f : Fin 64 → EReal) : Ideal.div (∑ l : Fin 128, f ⟨l.val % 64, by omega⟩) (Ideal.ofBits .f32 0x43000000#32) = mean f := by
  have h : ∑ l : Fin 128, f ⟨l.val % 64, by omega⟩ = (∑ k, f k) + ∑ k, f k := by
    rw [Fin.sum_univ_two_halves 64 64 rfl]
    exact congrArg₂ (· + ·) (Finset.sum_congr rfl fun k _ => congrArg f (Fin.ext (by dsimp only; omega)))
      (Finset.sum_congr rfl fun k _ => congrArg f (Fin.ext (by dsimp only; omega)))
  rw [h]
  exact half _

/-- A natural number as an extended real. -/
abbrev num (n : ℕ) : EReal := ((n : ℝ) : EReal)

/-- The 64 columns beside a key: three copies of the position's multiple of sixteen and its rest, then zeros. -/
def posCol (p : ℕ) (b : ℕ) : EReal := if b < 6 then (if b % 2 = 0 then num (p - p % 16) else num (p % 16)) else 0
/-- The 64 rows below a value: a row of ones, then zeros. -/
def oneRow (b : ℕ) : EReal := if b = 0 then 1 else 0

/-- Queries, under the softmax scale. -/
def q (x : Fin 1024 → EReal) (w : Fin 1024 → Fin 5064 → EReal) (l : Fin 512) : EReal := proj x w ⟨l.val, by omega⟩ * scale
/-- Keys: head `l / 256` is laid out as the head, the position columns, the position columns again, the head. -/
def k4 (x : Fin 1024 → EReal) (w : Fin 1024 → Fin 5064 → EReal) (p : ℕ) (l : Fin 512) : EReal :=
  if h : l.val % 256 < 64 then proj x w ⟨512 + l.val / 256 * 64 + l.val % 256, by omega⟩
  else if l.val % 256 < 192 then posCol p (l.val % 64)
  else proj x w ⟨512 + l.val / 256 * 64 + (l.val % 256 - 192), by omega⟩
/-- Values: head `l / 256` is laid out as the head, a row of ones over zeros, that again, the head. -/
def vt (x : Fin 1024 → EReal) (w : Fin 1024 → Fin 5064 → EReal) (l : Fin 512) : EReal :=
  if h : l.val % 256 < 64 then proj x w ⟨640 + l.val / 256 * 64 + l.val % 256, by omega⟩
  else if l.val % 256 < 192 then oneRow (l.val % 64)
  else proj x w ⟨640 + l.val / 256 * 64 + (l.val % 256 - 192), by omega⟩
/-- Indexer queries. -/
def qi (x : Fin 1024 → EReal) (w : Fin 1024 → Fin 5064 → EReal) (l : Fin 512) : EReal := proj x w ⟨768 + l.val, by omega⟩
/-- The indexer key after its layer norm, twice side by side. -/
def ki2 (x : Fin 1024 → EReal) (w : Fin 1024 → Fin 5064 → EReal) (lw lb : Fin 64 → EReal) (l : Fin 128) : EReal :=
  norm (fun k => proj x w ⟨1280 + k.val, by omega⟩) (lw ⟨l.val % 64, by omega⟩) (lb ⟨l.val % 64, by omega⟩) ⟨l.val % 64, by omega⟩
/-- The indexer's eight head weights, then zeros. -/
def wi (x : Fin 1024 → EReal) (w : Fin 1024 → Fin 5064 → EReal) (l : Fin 128) : EReal :=
  if h : l.val < 8 then proj x w ⟨1344 + l.val, by omega⟩ else 0
/-- The recurrent branch's input. -/
def pr (x : Fin 1024 → EReal) (w : Fin 1024 → Fin 5064 → EReal) (l : Fin 1664) : EReal := proj x w ⟨1352 + l.val, by omega⟩

/-! ## The combined weight as the kernel lays it out -/

/-- Column `l` of the keys' part: each of the two heads twice, two blocks of zeros in between. -/
def keyCol (w : Fin 5064 → EReal) (l : ℕ) (hl : l < 512) : EReal :=
  if h : l % 256 < 64 then w ⟨512 + l / 256 * 64 + l % 256, by omega⟩
  else if l % 256 < 192 then 0
  else w ⟨512 + l / 256 * 64 + (l % 256 - 192), by omega⟩

/-- Column `j` of the laid-out weight: queries, keys, values and indexer queries and the indexer key, the indexer key
    again with the head weights, zeros. -/
def lay (w : Fin 5064 → EReal) (j : Fin 1920) : EReal :=
  if h : j.val < 512 then w ⟨j.val, by omega⟩
  else if h : j.val < 1024 then keyCol w (j.val - 512) (by omega)
  else if h : j.val < 1728 then w ⟨j.val - 384, by omega⟩
  else if h : j.val < 1800 then w ⟨j.val - 448, by omega⟩
  else 0

/-- Column `j` of a row's projection through the laid-out weight. -/
def projL (x : Fin 1024 → EReal) (w : Fin 1024 → Fin 5064 → EReal) (j : Fin 1920) : EReal := ∑ k, x k * lay (w k) j

/-- A laid-out column that is column `i` of the combined weight projects as that column. -/
theorem projL_of (x : Fin 1024 → EReal) (w : Fin 1024 → Fin 5064 → EReal) (j : Fin 1920) (i : Fin 5064) (h : ∀ f : Fin 5064 → EReal, lay f j = f i) :
    projL x w j = proj x w i := Finset.sum_congr rfl fun k _ => congrArg (x k * ·) (h (w k))

/-- A laid-out column of zeros projects to zero. -/
theorem projL_zero (x : Fin 1024 → EReal) (w : Fin 1024 → Fin 5064 → EReal) (j : Fin 1920) (h : ∀ f : Fin 5064 → EReal, lay f j = 0) :
    projL x w j = 0 := Finset.sum_eq_zero fun k _ => by rw [h, mul_zero]

/-- The queries' columns. -/
theorem projL_q (x : Fin 1024 → EReal) (w : Fin 1024 → Fin 5064 → EReal) (l : Fin 512) : projL x w ⟨l.val, by omega⟩ = proj x w ⟨l.val, by omega⟩ :=
  projL_of x w _ _ fun f => by unfold lay; rw [dif_pos l.isLt]

/-- The columns from 1024 to 1728. -/
theorem projL_mid (x : Fin 1024 → EReal) (w : Fin 1024 → Fin 5064 → EReal) (l : ℕ) (h0 : 1024 ≤ l) (h1 : l < 1728) :
    projL x w ⟨l, by omega⟩ = proj x w ⟨l - 384, by omega⟩ :=
  projL_of x w _ _ fun f => by unfold lay; rw [dif_neg (by dsimp only; omega), dif_neg (by dsimp only; omega), dif_pos h1]

/-- The columns from 1728 to 1800. -/
theorem projL_end (x : Fin 1024 → EReal) (w : Fin 1024 → Fin 5064 → EReal) (l : ℕ) (h0 : 1728 ≤ l) (h1 : l < 1800) :
    projL x w ⟨l, by omega⟩ = proj x w ⟨l - 448, by omega⟩ :=
  projL_of x w _ _ fun f => by unfold lay; rw [dif_neg (by dsimp only; omega), dif_neg (by dsimp only; omega), dif_neg (by dsimp only; omega), dif_pos h1]

/-- The last columns. -/
theorem projL_pad (x : Fin 1024 → EReal) (w : Fin 1024 → Fin 5064 → EReal) (l : ℕ) (h0 : 1800 ≤ l) (h1 : l < 1920) :
    projL x w ⟨l, h1⟩ = 0 :=
  projL_zero x w _ fun f => by unfold lay; rw [dif_neg (by dsimp only; omega), dif_neg (by dsimp only; omega), dif_neg (by dsimp only; omega), dif_neg (by dsimp only; omega)]

/-- The keys' columns: with the position columns added they are the keys as laid out. -/
theorem projL_key (x : Fin 1024 → EReal) (w : Fin 1024 → Fin 5064 → EReal) (p : ℕ) (l : Fin 512) :
    projL x w ⟨512 + l.val, by omega⟩ + (if 64 ≤ l.val % 256 ∧ l.val % 256 < 192 then posCol p (l.val % 64) else 0) = k4 x w p l := by
  have e : ∀ f : Fin 5064 → EReal, lay f ⟨512 + l.val, by omega⟩ = keyCol f l.val l.isLt := fun f => by
    unfold lay
    rw [dif_neg (by dsimp only; omega), dif_pos (by dsimp only; omega)]
    simp only [Nat.add_sub_cancel_left]
  unfold k4
  split_ifs with h1 h2 h3 h4 h5
  · omega
  · exact (congrArg (· + _) (projL_zero x w _ fun f => by rw [e, keyCol, dif_neg (by omega), if_pos (by omega)])).trans (zero_add _)
  · omega
  · rw [add_zero]; exact projL_of x w _ _ fun f => by rw [e, keyCol, dif_pos (by omega)]
  · omega
  · rw [add_zero]; exact projL_of x w _ _ fun f => by rw [e, keyCol, dif_neg (by omega), if_neg (by omega)]

end InprojSpec
-- ==== Proof.Inproj.Blocks.lean ====
module

public import proofs.«01_k».proof.Proof.Gen.InprojIdeal.Value
public import proofs.«01_k».proof.Proof.Inproj.Spec
public import proofs.«01_k».proof.Proof.Ffn.Ref
public import Idealize.ShloMosaic.Lib.Pipeline.ValueKit

/-! What the input windows' blocks hold: rows of the input, and columns of the laid-out weights. -/

@[expose] public section

set_option maxRecDepth 16384

noncomputable section
open Idealize.ShloMosaic Idealize.ShloMosaic.TcCoe Idealize.SL.Sem
open Idealize.ShloMosaic.Pipeline (Dat)
namespace Cert.InprojIdeal.Value
open Cert.InprojIdeal Cert.InprojIdeal.Gen

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![0, t.val]
    ∧ win0_8.index t = ![t.val, 0] ∧ win0_9.index t = ![t.val, 0] ∧ win0_10.index t = ![t.val, 0] ∧ win0_11.index t = ![t.val, 0] :=
  (by decide +kernel : ∀ t : Fin grid0.N, _)

/-- The input rows. -/
abbrev inX (c : Dev nD) (R : Fin 16384) (k : Fin 1024) : EReal := m ((c : Thread nD τ).loc main_arg0) (ix3 (MergeSpec.seq R) (MergeSpec.pos R) k)
/-- The combined weight. -/
abbrev inW (c : Dev nD) (k : Fin 1024) (j : Fin 5064) : EReal := m ((c : Thread nD τ).loc main_arg1) (ix3 0 k j)
/-- The layer norm's scale. -/
abbrev inLw (c : Dev nD) (l : Fin 64) : EReal := m ((c : Thread nD τ).loc main_arg2) (ix2 0 l)
/-- The layer norm's shift. -/
abbrev inLb (c : Dev nD) (l : Fin 64) : EReal := m ((c : Thread nD τ).loc main_arg3) (ix2 0 l)

/-- Row `r` of tile `t`. -/
abbrev row (t : Fin cfg0.N) (r : Fin 512) : Fin 16384 := ⟨t.val * 512 + r.val, by have : t.val < 32 := t.isLt; omega⟩

/-! ## The laid-out weights -/

/-- The combined weight without its unit axis. -/
abbrev flatW (w : FVec Ideal S1x1024x5064 .f32) : FVec Ideal S1024x5064 .f32 := shapeCast S1024x5064 w shapeCasts_S1x1024x5064_S1024x5064
/-- The columns of the two key heads. -/
def keysW (w : FVec Ideal S1x1024x5064 .f32) : FVec Ideal S1024x128 .f32 := extractStridedSlice S1024x128 ![0, 512] (flatW w) slices_S1024x5064_S1024x128_0_512
/-- The first key head's columns. -/
def key0W (w : FVec Ideal S1x1024x5064 .f32) : FVec Ideal S1024x64 .f32 := extractStridedSlice S1024x64 ![0, 0] (keysW w) slices_S1024x128_S1024x64_0_0
/-- The second key head's columns. -/
def key1W (w : FVec Ideal S1x1024x5064 .f32) : FVec Ideal S1024x64 .f32 := extractStridedSlice S1024x64 ![0, 64] (keysW w) slices_S1024x128_S1024x64_0_64
/-- Sixty-four columns of zeros. -/
def zeroW : FVec Ideal S1024x64 .f32 := broadcastInDim S1024x64 ![] bcast_S_S1024x64 (constant (F := Ideal) S_ .f32 0x00000000#32)
/-- The eight head weights' columns, padded to 128 with zeros. -/
def headW (w : FVec Ideal S1x1024x5064 .f32) : FVec Ideal S1024x128 .f32 :=
  pad S1024x128 ![0, 0] ![0, 120] ![0, 0] (extractStridedSlice S1024x8 ![0, 1344] (flatW w) slices_S1024x5064_S1024x8_0_1344) (sitofp .f32 (constantI S_ 32 0#32)) pads_S1024x8_S1024x128_000_01200 h_S_
/-- The indexer key's columns. -/
def ikeyW (w : FVec Ideal S1x1024x5064 .f32) : FVec Ideal S1024x64 .f32 := extractStridedSlice S1024x64 ![0, 1280] (flatW w) slices_S1024x5064_S1024x64_0_1280

/-- The queries' columns. -/
def qW (w : FVec Ideal S1x1024x5064 .f32) : FVec Ideal S1024x512 .f32 := extractStridedSlice S1024x512 ![0, 0] (flatW w) slices_S1024x5064_S1024x512_0_0
/-- The values' columns. -/
def vW (w : FVec Ideal S1x1024x5064 .f32) : FVec Ideal S1024x128 .f32 := extractStridedSlice S1024x128 ![0, 640] (flatW w) slices_S1024x5064_S1024x128_0_640
/-- The indexer queries' columns. -/
def iqW (w : FVec Ideal S1x1024x5064 .f32) : FVec Ideal S1024x512 .f32 := extractStridedSlice S1024x512 ![0, 768] (flatW w) slices_S1024x5064_S1024x512_0_768

/-- The pieces of the first weight operand. -/
abbrev layP (w : FVec Ideal S1x1024x5064 .f32) : List ((s : Shape) × (s.Idx → EReal)) := [⟨S1024x512, qW w⟩,
    ⟨S1024x64, key0W w⟩, ⟨S1024x64, zeroW⟩, ⟨S1024x64, zeroW⟩, ⟨S1024x64, key0W w⟩, ⟨S1024x64, key1W w⟩, ⟨S1024x64, zeroW⟩, ⟨S1024x64, zeroW⟩, ⟨S1024x64, key1W w⟩,
    ⟨S1024x128, vW w⟩,
    ⟨S1024x512, iqW w⟩,
    ⟨S1024x64, ikeyW w⟩, ⟨S1024x64, ikeyW w⟩, ⟨S1024x128, headW w⟩]

/-- The first weight operand: queries, keys with zeros in between, values, indexer queries, the indexer key twice, head weights. -/
def layW (w : FVec Ideal S1x1024x5064 .f32) : FVec Ideal S1024x1920 .f32 :=
  concatenate S1024x1920 1 (layP w)
    concatenates_S1024x512_S1024x64_S1024x64_S1024x64_S1024x64_S1024x64_S1024x64_S1024x64_S1024x64_S1024x128_S1024x512_S1024x64_S1024x64_S1024x128_S1024x1920_d1

/-- The region finds the laid-out weight in the first weight operand. -/
theorem V_layW (c : Dev nD) : V m c main_v20 = truncf .bf16 (layW (m ((c : Thread nD τ).loc main_arg1))) bitsLt_bf16_f32 := rfl
/-- The region finds the recurrent branch's columns in the second weight operand. -/
theorem V_prW (c : Dev nD) : V m c main_v22 = truncf .bf16 (extractStridedSlice S1024x1664 ![0, 1352] (flatW (m ((c : Thread nD τ).loc main_arg1))) slices_S1024x5064_S1024x1664_0_1352) bitsLt_bf16_f32 := rfl
/-- The region finds the input's rows in the first operand. -/
theorem V_rows (c : Dev nD) : V m c main_v27 = shapeCast S16384x1024 (m ((c : Thread nD τ).loc main_arg0)) shapeCasts_S8x2048x1024_S16384x1024 := rfl
/-- The region finds the layer norm's scale, twice. -/
theorem V_lw (c : Dev nD) : V m c main_v24 = shapeCast S1x128 (concatenate S128 0 [⟨S64, shapeCast S64 (m ((c : Thread nD τ).loc main_arg2)) shapeCasts_S1x64_S64⟩, ⟨S64, shapeCast S64 (m ((c : Thread nD τ).loc main_arg2)) shapeCasts_S1x64_S64⟩] concatenates_S64_S64_S128_d0) shapeCasts_S128_S1x128 := rfl
/-- The region finds the layer norm's shift, twice. -/
theorem V_lb (c : Dev nD) : V m c main_v26 = shapeCast S1x128 (concatenate S128 0 [⟨S64, shapeCast S64 (m ((c : Thread nD τ).loc main_arg3)) shapeCasts_S1x64_S64⟩, ⟨S64, shapeCast S64 (m ((c : Thread nD τ).loc main_arg3)) shapeCasts_S1x64_S64⟩] concatenates_S64_S64_S128_d0) shapeCasts_S128_S1x128 := rfl

/-- The queries' columns at an entry. -/
theorem qW_at (w : FVec Ideal S1x1024x5064 .f32) (k : Fin 1024) (j : Fin 512) : qW w (ix2 k j) = w (ix3 0 k ⟨j.val, by omega⟩) := by pointwise [qW]
/-- The first key head's columns at an entry. -/
theorem key0W_at (w : FVec Ideal S1x1024x5064 .f32) (k : Fin 1024) (j : Fin 64) : key0W w (ix2 k j) = w (ix3 0 k ⟨512 + j.val, by omega⟩) := by pointwise [key0W, keysW]
/-- The second key head's columns at an entry. -/
theorem key1W_at (w : FVec Ideal S1x1024x5064 .f32) (k : Fin 1024) (j : Fin 64) : key1W w (ix2 k j) = w (ix3 0 k ⟨576 + j.val, by omega⟩) := by
  pointwise [key1W, keysW]
  exact congrArg (fun j => w (ix3 0 k j)) (Fin.ext (by show 512 + (64 + j.val) = 576 + j.val; omega))
/-- The columns of zeros at an entry. -/
theorem zeroW_at (k : Fin 1024) (j : Fin 64) : zeroW (ix2 k j) = 0 := by pointwise [zeroW]
/-- The values' columns at an entry. -/
theorem vW_at (w : FVec Ideal S1x1024x5064 .f32) (k : Fin 1024) (j : Fin 128) : vW w (ix2 k j) = w (ix3 0 k ⟨640 + j.val, by omega⟩) := by pointwise [vW]
/-- The indexer queries' columns at an entry. -/
theorem iqW_at (w : FVec Ideal S1x1024x5064 .f32) (k : Fin 1024) (j : Fin 512) : iqW w (ix2 k j) = w (ix3 0 k ⟨768 + j.val, by omega⟩) := by pointwise [iqW]
/-- The indexer key's columns at an entry. -/
theorem ikeyW_at (w : FVec Ideal S1x1024x5064 .f32) (k : Fin 1024) (j : Fin 64) : ikeyW w (ix2 k j) = w (ix3 0 k ⟨1280 + j.val, by omega⟩) := by pointwise [ikeyW]
/-- The padded head weights' columns at an entry. -/
theorem headW_at (w : FVec Ideal S1x1024x5064 .f32) (k : Fin 1024) (j : Fin 128) : headW w (ix2 k j) = if h : j.val < 8 then w (ix3 0 k ⟨1344 + j.val, by omega⟩) else 0 := by
  pointwise [headW]
  rw [Cert.FfnRefIdeal.Stage.sitofp_zero]

/-- The input as 16384 rows. -/
theorem rows_at (X : FVec Ideal S8x2048x1024 .f32) (R : Fin 16384) (k : Fin 1024) :
    shapeCast S16384x1024 X shapeCasts_S8x2048x1024_S16384x1024 (ix2 R k) = X (ix3 (MergeSpec.seq R) (MergeSpec.pos R) k) := by
  pointwise

/-- The recurrent branch's columns at an entry. -/
theorem prW_at (w : FVec Ideal S1x1024x5064 .f32) (k : Fin 1024) (j : Fin 1664) :
    truncf .bf16 (extractStridedSlice S1024x1664 ![0, 1352] (flatW w) slices_S1024x5064_S1024x1664_0_1352) bitsLt_bf16_f32 (ix2 k j) = w (ix3 0 k ⟨1352 + j.val, by omega⟩) := by
  pointwise

/-- The pieces' widths. -/
abbrev laySizes : List ℕ := [512, 64, 64, 64, 64, 64, 64, 64, 64, 128, 512, 64, 64, 128]

/-- A piece of the laid-out weight: columns `pre` to `pre + n`. -/
theorem layW_piece (w : FVec Ideal S1x1024x5064 .f32) (i pre n : ℕ) (x : FVec Ideal (⟨2, ![1024, n]⟩ : Shape) .f32) (hi : i < 14)
    (hx : (layP w)[i]'hi = ⟨⟨2, ![1024, n]⟩, x⟩)
    (hpre : (laySizes.take i).sum = pre)
    (k : Fin 1024) (j : Fin 1920) (h1 : pre ≤ j.val) (h2 : j.val - pre < n) : layW w (ix2 k j) = x (ix2 k ⟨j.val - pre, h2⟩) :=
  concatenate_apply_piece (t := S1024x1920) 1 (layP w) _ (ix2 k j) i hi _ x hx rfl pre (by rw [← hpre, List.map_take, List.map_take]; rfl) (ix2 k ⟨j.val - pre, h2⟩)
    (fun b hb => by fin_cases b; exact rfl; exact absurd rfl hb) (Nat.add_sub_cancel' h1)

set_option maxHeartbeats 1600000 in
/-- The laid-out weight at an entry: a column of the combined weight, or zero. -/
theorem layW_at (w : FVec Ideal S1x1024x5064 .f32) (k : Fin 1024) (j : Fin 1920) : layW w (ix2 k j) = InprojSpec.lay (fun j => w (ix3 0 k j)) j := by
  unfold InprojSpec.lay InprojSpec.keyCol
  have hj := j.isLt
  have hc : (0 ≤ j.val ∧ j.val - 0 < 512)
      ∨ (512 ≤ j.val ∧ j.val - 512 < 64)
      ∨ (576 ≤ j.val ∧ j.val - 576 < 64)
      ∨ (640 ≤ j.val ∧ j.val - 640 < 64)
      ∨ (704 ≤ j.val ∧ j.val - 704 < 64)
      ∨ (768 ≤ j.val ∧ j.val - 768 < 64)
      ∨ (832 ≤ j.val ∧ j.val - 832 < 64)
      ∨ (896 ≤ j.val ∧ j.val - 896 < 64)
      ∨ (960 ≤ j.val ∧ j.val - 960 < 64)
      ∨ (1024 ≤ j.val ∧ j.val - 1024 < 128)
      ∨ (1152 ≤ j.val ∧ j.val - 1152 < 512)
      ∨ (1664 ≤ j.val ∧ j.val - 1664 < 64)
      ∨ (1728 ≤ j.val ∧ j.val - 1728 < 64)
      ∨ (1792 ≤ j.val ∧ j.val - 1792 < 128) := by omega
  rcases hc with h | h | h | h | h | h | h | h | h | h | h | h | h | h <;> [rw [layW_piece w 0 0 512 (qW w) (by decide) rfl (by decide) k j h.1 h.2, qW_at];
    rw [layW_piece w 1 512 64 (key0W w) (by decide) rfl (by decide) k j h.1 h.2, key0W_at];
    rw [layW_piece w 2 576 64 (zeroW) (by decide) rfl (by decide) k j h.1 h.2, zeroW_at];
    rw [layW_piece w 3 640 64 (zeroW) (by decide) rfl (by decide) k j h.1 h.2, zeroW_at];
    rw [layW_piece w 4 704 64 (key0W w) (by decide) rfl (by decide) k j h.1 h.2, key0W_at];
    rw [layW_piece w 5 768 64 (key1W w) (by decide) rfl (by decide) k j h.1 h.2, key1W_at];
    rw [layW_piece w 6 832 64 (zeroW) (by decide) rfl (by decide) k j h.1 h.2, zeroW_at];
    rw [layW_piece w 7 896 64 (zeroW) (by decide) rfl (by decide) k j h.1 h.2, zeroW_at];
    rw [layW_piece w 8 960 64 (key1W w) (by decide) rfl (by decide) k j h.1 h.2, key1W_at];
    rw [layW_piece w 9 1024 128 (vW w) (by decide) rfl (by decide) k j h.1 h.2, vW_at];
    rw [layW_piece w 10 1152 512 (iqW w) (by decide) rfl (by decide) k j h.1 h.2, iqW_at];
    rw [layW_piece w 11 1664 64 (ikeyW w) (by decide) rfl (by decide) k j h.1 h.2, ikeyW_at];
    rw [layW_piece w 12 1728 64 (ikeyW w) (by decide) rfl (by decide) k j h.1 h.2, ikeyW_at];
    rw [layW_piece w 13 1792 128 (headW w) (by decide) rfl (by decide) k j h.1 h.2, headW_at]]
  all_goals split_ifs <;> first | (exfalso; omega) | rfl | exact congrArg (fun j => w (ix3 0 k j)) (Fin.ext (by dsimp only <;> omega)) | (exfalso; dsimp only at *; omega)

/-- A 64-vector laid twice side by side. -/
theorem two_at (x : FVec Ideal S1x64 .f32) (l : Fin 128) :
    shapeCast S1x128 (concatenate S128 0 [⟨S64, shapeCast S64 x shapeCasts_S1x64_S64⟩, ⟨S64, shapeCast S64 x shapeCasts_S1x64_S64⟩] concatenates_S64_S64_S128_d0) shapeCasts_S128_S1x128 (ix2 0 l)
      = x (ix2 0 ⟨l.val % 64, by omega⟩) := by
  pointwise
  split <;> exact congrArg (fun l => x (ix2 0 l)) (Fin.ext (by show _ = l.val % 64; simp only; omega))

/-! ## The blocks -/

/-- Rows of the input. -/
theorem blk0 (c : Dev nD) (t : Fin cfg0.N) (r : Fin 512) (k : Fin 1024) : iblk m c 0 t (ix2 r k) = inX m c (row t r) k := by
  refine Eq.trans ?_ (rows_at _ _ _)
  rw [← V_rows]
  blk_simp [iblk, idx t]
  blk_ext [idx t]

/-- The laid-out weight. -/
theorem blk1 (c : Dev nD) (t : Fin cfg0.N) (k : Fin 1024) (j : Fin 1920) : iblk m c 1 t (ix2 k j) = InprojSpec.lay (inW m c k) j := by
  refine Eq.trans ?_ (layW_at _ _ _)
  show _ = truncf .bf16 (layW (m ((c : Thread nD τ).loc main_arg1))) bitsLt_bf16_f32 (ix2 k j)
  rw [← V_layW]
  blk_simp [iblk, idx t]
  blk_ext [idx t]

/-- The recurrent branch's columns. -/
theorem blk2 (c : Dev nD) (t : Fin cfg0.N) (k : Fin 1024) (j : Fin 1664) : iblk m c 2 t (ix2 k j) = inW m c k ⟨1352 + j.val, by omega⟩ := by
  refine Eq.trans ?_ (prW_at _ _ _)
  rw [← V_prW]
  blk_simp [iblk, idx t]
  blk_ext [idx t]

/-- The layer norm's scale, twice. -/
theorem blk3 (c : Dev nD) (t : Fin cfg0.N) (l : Fin 128) : iblk m c 3 t (ix2 0 l) = inLw m c ⟨l.val % 64, by omega⟩ := by
  refine Eq.trans ?_ (two_at _ _)
  rw [← V_lw]
  blk_simp [iblk, idx t]
  blk_ext [idx t]

/-- The layer norm's shift, twice. -/
theorem blk4 (c : Dev nD) (t : Fin cfg0.N) (l : Fin 128) : iblk m c 4 t (ix2 0 l) = inLb m c ⟨l.val % 64, by omega⟩ := by
  refine Eq.trans ?_ (two_at _ _)
  rw [← V_lb]
  blk_simp [iblk, idx t]
  blk_ext [idx t]

end Cert.InprojIdeal.Value
-- ==== Proof.Inproj.Tile.lean ====
module

public import proofs.«01_k».proof.Proof.Gen.InprojIdeal.Value
public import proofs.«01_k».proof.Proof.Inproj.Spec
public import proofs.«01_k».proof.Proof.Ffn.Ref
public import Idealize.ShloMosaic.Lib.Pipeline.ValueKit

/-! What each stored piece of a tile holds, over the tile's rows and the laid-out weight. -/

@[expose] public section

set_option maxRecDepth 16384

noncomputable section
open Idealize.ShloMosaic Idealize.ShloMosaic.TcCoe Idealize.SL.Sem
namespace Cert.InprojIdeal.Value
open Cert.InprojIdeal Cert.InprojIdeal.Gen

variable (T : FVec Ideal S512x1920 .f32) (r : Fin 512)

/-- The product with the laid-out weight at an index. -/
theorem pay5_at (X : FVec Ideal S512x1024 .f32) (W : FVec Ideal S1024x1920 .bf16) (j : Fin 1920) :
    k0_pay5 X W (ix2 r j) = ∑ k : Fin 1024, X (ix2 r k) * W (ix2 k j) := by
  unfold k0_pay5 k0_pay4
  pointwise

/-- The product with the recurrent branch's columns at an index. -/
theorem pay3_at (X : FVec Ideal S512x1024 .f32) (W : FVec Ideal S1024x1664 .bf16) (j : Fin 1664) :
    k0_pay3 (k0_pay4 X) W (ix2 r j) = ∑ k : Fin 1024, X (ix2 r k) * W (ix2 k j) := by
  unfold k0_pay3 k0_pay4
  pointwise

/-- The queries' piece at an index. -/
theorem pay6_at (X : FVec Ideal S512x1024 .f32) (W : FVec Ideal S1024x1920 .bf16) (l : Fin 512) :
    (k0_pay6 (F := Ideal) X W (ix2 r l) : EReal) = (k0_pay5 (F := Ideal) X W (ix2 r ⟨l.val, by omega⟩) : EReal) * InprojSpec.scale := by
  unfold k0_pay6
  pointwise

/-- The indexer queries' piece at an index. -/
theorem pay23_at (l : Fin 512) : k0_pay23 T (ix2 r l) = T (ix2 r ⟨1152 + l.val, by omega⟩) := by
  unfold k0_pay23
  pointwise

/-- The head weights' piece at an index. -/
theorem pay2_at (l : Fin 128) : k0_pay2 T (ix2 r l) = T (ix2 r ⟨1792 + l.val, by omega⟩) := by
  unfold k0_pay2
  pointwise

/-! ## The position columns -/

/-- The position of the tile's first row, as the body computes it at grid point `n`. -/
def base (n : BitVec 32) : BitVec 32 :=
  Scalar.select
    (Scalar.andi
      (Scalar.xori (Scalar.cmpi .slt (Scalar.remsi (Scalar.muli n 512#32) (Scalar.select (Scalar.cmpi .eq 2048#32 0#32) 1#32 2048#32)) 0#32)
        (Scalar.cmpi .slt (Scalar.select (Scalar.cmpi .eq 2048#32 0#32) 1#32 2048#32) 0#32))
      (Scalar.cmpi .ne (Scalar.remsi (Scalar.muli n 512#32) (Scalar.select (Scalar.cmpi .eq 2048#32 0#32) 1#32 2048#32)) 0#32))
    (Scalar.addi (Scalar.remsi (Scalar.muli n 512#32) (Scalar.select (Scalar.cmpi .eq 2048#32 0#32) 1#32 2048#32))
      (Scalar.select (Scalar.cmpi .eq 2048#32 0#32) 1#32 2048#32))
    (Scalar.remsi (Scalar.muli n 512#32) (Scalar.select (Scalar.cmpi .eq 2048#32 0#32) 1#32 2048#32))

/-- The first row's position, at every grid point. -/
theorem base_eq : ∀ n : Fin 32, base (BitVec.ofNat 32 n.val) = BitVec.ofNat 32 (n.val * 512 % 2048) := by decide +kernel

/-- The position of row `r` of the tile at grid point `i`. -/
abbrev rowPos (i : grid0.Coords) (r : Fin 512) : ℕ := (i 0).val * 512 % 2048 + r.val

/-- A row's position, in every column. -/
theorem pay7_at (i : grid0.Coords) (l : Fin 256) : k0_pay7 i (ix2 r l) = BitVec.ofNat 32 (rowPos i r) := by
  have h : k0_pay7 i (ix2 r l) = IntOp.addi (base (BitVec.ofNat 32 (i 0).val)) (BitVec.ofNat 32 r.val) := by
    unfold k0_pay7 base
    pointwise
  rw [h, base_eq ⟨(i 0).val, (i 0).isLt⟩]
  exact (BitVec.ofNat_add _ _).symm

/-- The low four bits of a small number. -/
theorem low_bits (p : ℕ) (h : p < 2048) : BitVec.ofNat 32 p &&& 15#32 = BitVec.ofNat 32 (p % 16) := by
  apply BitVec.eq_of_toNat_eq
  rw [BitVec.toNat_and, BitVec.toNat_ofNat, BitVec.toNat_ofNat, BitVec.toNat_ofNat, Nat.mod_eq_of_lt (a := p) (by omega), Nat.mod_eq_of_lt (a := p % 16) (by omega)]
  exact Nat.and_two_pow_sub_one_eq_mod p 4

/-- The rest above the low four bits. -/
theorem high_bits (p : ℕ) (h : p < 2048) : BitVec.ofNat 32 p - BitVec.ofNat 32 (p % 16) = BitVec.ofNat 32 (p - p % 16) := by
  apply BitVec.eq_of_toNat_eq
  simp only [BitVec.toNat_sub, BitVec.toNat_ofNat]
  omega

/-- A small number converted to a float is itself. -/
theorem sitofp_num (p : ℕ) (h : p < 2048) : (FloatOps.sitofp FTy.f32 (BitVec.ofNat 32 p) : Ideal .f32) = InprojSpec.num p := by
  show (((BitVec.ofNat 32 p).toInt : ℝ) : EReal) = _
  rw [BitVec.toInt_eq_toNat_of_lt (by rw [BitVec.toNat_ofNat]; omega), BitVec.toNat_ofNat, Nat.mod_eq_of_lt (by omega), Int.cast_natCast]

/-- The position's low four bits, in every column. -/
theorem pay8_at (i : grid0.Coords) (l : Fin 256) : k0_pay8 i (ix2 r l) = BitVec.ofNat 32 (rowPos i r % 16) := by
  rw [← low_bits _ (by unfold rowPos; omega), ← pay7_at r i l]
  rfl

/-- A column's place in its block of sixty-four, as the body computes it. -/
def place (l : BitVec 32) : BitVec 32 :=
  Scalar.select (IntOp.cmpi CmpIPredicate.slt l 128#32) (IntOp.subi l 64#32) (IntOp.subi l 128#32)

/-- A column's place, in every row. -/
theorem pay9_at (l : Fin 256) : k0_pay9 (ix2 r l) = place (BitVec.ofNat 32 l.val) := by
  unfold k0_pay9 place
  pointwise

/-- Whether the place is not negative. -/
theorem pay10_at (l : Fin 256) : k0_pay10 (ix2 r l) = IntOp.cmpi .sge (place (BitVec.ofNat 32 l.val)) 0#32 := by
  rw [← pay9_at r l]
  unfold k0_pay10
  pointwise

/-- The columns that hold a position. -/
theorem place_in : ∀ l : Fin 256, IntOp.andi (IntOp.cmpi .sge (place (BitVec.ofNat 32 l.val)) 0#32) (IntOp.cmpi .slt (place (BitVec.ofNat 32 l.val)) 6#32)
    = if 64 ≤ l.val ∧ l.val < 192 ∧ l.val % 64 < 6 then 1#1 else 0#1 := by decide +kernel

/-- Among them the even ones hold the multiple of sixteen. -/
theorem place_even : ∀ l : Fin 256, IntOp.cmpi .eq (IntOp.andi (place (BitVec.ofNat 32 l.val)) 1#32) 0#32 = if l.val % 64 % 2 = 0 then 1#1 else 0#1 := by decide +kernel

/-- What the body adds to the keys' columns. -/
theorem pay11_at (i : grid0.Coords) (l : Fin 256) : k0_pay11 (F := Ideal) (k0_pay7 i) (k0_pay8 i) k0_pay9 k0_pay10 6#32 (ix2 r l)
    = if 64 ≤ l.val ∧ l.val < 192 then InprojSpec.posCol (rowPos i r) (l.val % 64) else 0 := by
  have hp : rowPos i r < 2048 := by unfold rowPos; omega
  have h : k0_pay11 (F := Ideal) (k0_pay7 i) (k0_pay8 i) k0_pay9 k0_pay10 6#32 (ix2 r l)
      = (FloatOps.sitofp FTy.f32 (Scalar.select (IntOp.andi (k0_pay10 (ix2 r l)) (IntOp.cmpi .slt (k0_pay9 (ix2 r l)) 6#32))
          (Scalar.select (IntOp.cmpi .eq (IntOp.andi (k0_pay9 (ix2 r l)) 1#32) 0#32) (IntOp.subi (k0_pay7 i (ix2 r l)) (k0_pay8 i (ix2 r l))) (k0_pay8 i (ix2 r l))) 0#32) : Ideal .f32) := rfl
  rw [h, pay10_at, pay9_at, place_in, place_even, pay7_at, pay8_at]
  have e : IntOp.subi (BitVec.ofNat 32 (rowPos i r)) (BitVec.ofNat 32 (rowPos i r % 16)) = BitVec.ofNat 32 (rowPos i r - rowPos i r % 16) := high_bits _ hp
  rw [e]
  unfold InprojSpec.posCol
  by_cases h1 : 64 ≤ l.val ∧ l.val < 192
  · rw [if_pos h1]
    by_cases h2 : l.val % 64 < 6
    · rw [if_pos ⟨h1.1, h1.2, h2⟩, if_pos h2]
      by_cases h3 : l.val % 64 % 2 = 0
      · rw [if_pos h3, if_pos h3]; exact sitofp_num _ (by omega)
      · rw [if_neg h3, if_neg h3]; exact sitofp_num _ (by omega)
    · rw [if_neg (fun h => h2 h.2.2), if_neg h2]; exact Cert.FfnRefIdeal.Stage.sitofp_zero
  · rw [if_neg (fun h => h1 ⟨h.1, h.2.1⟩), if_neg h1]; exact Cert.FfnRefIdeal.Stage.sitofp_zero

/-- The first key head's piece at an index. -/
theorem pay13_at (i : grid0.Coords) (l : Fin 256) : (k0_pay13 (F := Ideal) T (k0_pay7 i) (k0_pay8 i) k0_pay9 k0_pay10 6#32 (ix2 r l) : EReal)
    = (T (ix2 r ⟨512 + l.val, by omega⟩) : EReal) + if 64 ≤ l.val ∧ l.val < 192 then InprojSpec.posCol (rowPos i r) (l.val % 64) else 0 := by
  rw [← pay11_at r i l]
  unfold k0_pay13 k0_pay12
  pointwise

/-- The second key head's piece at an index. -/
theorem pay14_at (i : grid0.Coords) (l : Fin 256) : (k0_pay14 (F := Ideal) T (k0_pay7 i) (k0_pay8 i) k0_pay9 k0_pay10 6#32 (ix2 r l) : EReal)
    = (T (ix2 r ⟨768 + l.val, by omega⟩) : EReal) + if 64 ≤ l.val ∧ l.val < 192 then InprojSpec.posCol (rowPos i r) (l.val % 64) else 0 := by
  rw [← pay11_at r i l]
  unfold k0_pay14 k0_pay12
  pointwise
  exact congrArg (fun j => (T (ix2 r j) : EReal) + _) (Fin.ext (by show 512 + (256 + l.val) = 768 + l.val; omega))

/-! ## The values' rows -/

/-- The comparison with 64, decided. -/
theorem first_half : ∀ l : Fin 128, IntOp.cmpi .slt (BitVec.ofNat 32 l.val) 64#32 = if l.val < 64 then 1#1 else 0#1 := by decide +kernel
/-- The test for 64, decided. -/
theorem at_half : ∀ l : Fin 128, IntOp.cmpi .eq (BitVec.ofNat 32 l.val) 64#32 = if l.val = 64 then 1#1 else 0#1 := by decide +kernel
/-- The test for zero, decided. -/
theorem at_zero : ∀ l : Fin 128, IntOp.cmpi .eq (BitVec.ofNat 32 l.val) 0#32 = if l.val = 0 then 1#1 else 0#1 := by decide +kernel

/-- A selection under a decided bit. -/
theorem select_if (p : Prop) [Decidable p] (a b : EReal) : Scalar.select (if p then 1#1 else 0#1) a b = if p then a else b := by
  split <;> rfl

/-- The first value head's upper piece: the head over a row of ones and zeros. -/
theorem pay18_at (l : Fin 128) : (k0_pay18 (F := Ideal) T (ix2 l r) : EReal) = if l.val < 64 then (T (ix2 r ⟨1024 + l.val, by omega⟩) : EReal) else InprojSpec.oneRow (l.val % 64) := by
  unfold k0_pay18 k0_pay17 k0_pay15
  pointwise
  rw [first_half, at_half, select_if, select_if]
  unfold InprojSpec.oneRow
  split_ifs <;> first | rfl | (exfalso; omega)

/-- The first value head's lower piece: a row of ones and zeros over the head. -/
theorem pay20_at (l : Fin 128) : (k0_pay20 (F := Ideal) (k0_pay16 T) k0_pay17 k0_pay19 (ix2 l r) : EReal) = if l.val < 64 then InprojSpec.oneRow (l.val % 64) else (T (ix2 r ⟨1024 + (l.val + 128 - 64) % 128, by omega⟩) : EReal) := by
  unfold k0_pay20 k0_pay17 k0_pay19 k0_pay16 k0_pay15
  pointwise
  rw [first_half, at_zero, select_if, select_if]
  unfold InprojSpec.oneRow
  split_ifs <;> first | rfl | (exfalso; omega)

/-- The second value head's upper piece. -/
theorem pay21_at (l : Fin 128) : (k0_pay21 (F := Ideal) (k0_pay16 T) (iota .tc S128x512 32 [0] iota_S128x512_d0_w32) k0_pay17 (ix2 l r) : EReal) = if l.val < 64 then (T (ix2 r ⟨1024 + (l.val + 128 - 64) % 128, by omega⟩) : EReal) else InprojSpec.oneRow (l.val % 64) := by
  unfold k0_pay21 k0_pay17 k0_pay16 k0_pay15
  pointwise
  rw [first_half, at_half, select_if, select_if]
  unfold InprojSpec.oneRow
  split_ifs <;> first | rfl | (exfalso; omega)

/-- The second value head's lower piece. -/
theorem pay22_at (l : Fin 128) : (k0_pay22 (F := Ideal) (k0_pay15 T) (iota .tc S128x512 32 [0] iota_S128x512_d0_w32) k0_pay17 (ix2 l r) : EReal) = if l.val < 64 then InprojSpec.oneRow (l.val % 64) else (T (ix2 r ⟨1024 + l.val, by omega⟩) : EReal) := by
  unfold k0_pay22 k0_pay17 k0_pay15
  pointwise
  rw [first_half, at_zero, select_if, select_if]
  unfold InprojSpec.oneRow
  split_ifs <;> first | rfl | (exfalso; omega)

/-! ## The indexer key -/

/-- The layer norm over the key laid out twice is the layer norm over the key. -/
theorem pay1_at (x y : FVec Ideal S1x128 .f32) (l : Fin 128) (f : Fin 64 → EReal) (hf : ∀ l : Fin 128, (T (ix2 r ⟨1664 + l.val, by omega⟩) : EReal) = f ⟨l.val % 64, by omega⟩) :
    k0_pay1 (k0_pay26 T) (k0_pay27 T) k0_pay28 x y (ix2 r l) = InprojSpec.norm f (x (ix2 0 l)) (y (ix2 0 l)) ⟨l.val % 64, by omega⟩ := by
  unfold k0_pay1 k0_pay26 k0_pay27 k0_pay28 k0_pay25 k0_pay24
  pointwise
  simp only [hf, InprojSpec.mean_twice f, InprojSpec.mean_twice fun k => (f k - InprojSpec.mean f) * (f k - InprojSpec.mean f)]
  rfl

end Cert.InprojIdeal.Value
-- ==== Proof.Inproj.Final.lean ====
module

public import proofs.«01_k».proof.Proof.Inproj.Blocks
public import proofs.«01_k».proof.Proof.Inproj.Tile

/-! The kernel's seven result arrays after the run. -/

@[expose] public section

set_option maxRecDepth 16384

noncomputable section
open Idealize.ShloMosaic Idealize.ShloMosaic.TcCoe Idealize.SL.Sem
open Idealize.ShloMosaic.Pipeline (Dat)
namespace Cert.InprojIdeal.Value
open Cert.InprojIdeal Cert.InprojIdeal.Gen

variable (m : (ℓ : Loc nD τ sig) → Buf (Elt Ideal) ℓ)

/-! ## The result arrays as functions of the arguments -/

/-- The queries as one array. -/
def resQ (c : Dev nD) : FVec Ideal S16384x512 .bf16 := fun i => InprojSpec.q (inX m c (i 0)) (inW m c) (i 1)
/-- The keys as one array. -/
def resK (c : Dev nD) : FVec Ideal S16384x512 .bf16 := fun i => InprojSpec.k4 (inX m c (i 0)) (inW m c) ((i 0).val % 2048) (i 1)
/-- The values as one array. -/
def resV (c : Dev nD) : FVec Ideal S512x16384 .bf16 := fun i => InprojSpec.vt (inX m c (i 1)) (inW m c) (i 0)
/-- The indexer queries as one array. -/
def resQi (c : Dev nD) : FVec Ideal S16384x512 .bf16 := fun i => InprojSpec.qi (inX m c (i 0)) (inW m c) (i 1)
/-- The indexer key as one array. -/
def resKi (c : Dev nD) : FVec Ideal S16384x128 .bf16 := fun i => InprojSpec.ki2 (inX m c (i 0)) (inW m c) (inLw m c) (inLb m c) (i 1)
/-- The head weights as one array. -/
def resWi (c : Dev nD) : FVec Ideal S16384x128 .f32 := fun i => InprojSpec.wi (inX m c (i 0)) (inW m c) (i 1)
/-- The recurrent branch's input as one array. -/
def resP (c : Dev nD) : FVec Ideal S16384x1664 .f32 := fun i => InprojSpec.pr (inX m c (i 0)) (inW m c) (i 1)

/-! ## Loads of whole blocks -/

/-- A load of the whole block is the block. -/
theorem ld_S512x1024 {e : EltTy} (X : Vec Ideal S512x1024 e) : View.ld (Val := Elt Ideal) X r0_0 = X :=
  View.ld_unit_zero (funext fun a => by fin_cases a <;> rfl) _ X
/-- A load of the whole block is the block. -/
theorem ld_S1024x1920 {e : EltTy} (X : Vec Ideal S1024x1920 e) : View.ld (Val := Elt Ideal) X r0_1 = X :=
  View.ld_unit_zero (funext fun a => by fin_cases a <;> rfl) _ X
/-- A load of the whole block is the block. -/
theorem ld_S1024x1664 {e : EltTy} (X : Vec Ideal S1024x1664 e) : View.ld (Val := Elt Ideal) X r0_11 = X :=
  View.ld_unit_zero (funext fun a => by fin_cases a <;> rfl) _ X
/-- A load of the whole block is the block. -/
theorem ld_S1x128 {e : EltTy} (X : Vec Ideal S1x128 e) : View.ld (Val := Elt Ideal) X r0_9 = X :=
  View.ld_unit_zero (funext fun a => by fin_cases a <;> rfl) _ X

/-! ## The tiles -/

/-- The projection of tile `t` through the laid-out weight. -/
abbrev tile (c : Dev nD) (t : Fin cfg0.N) : FVec Ideal S512x1920 .f32 := k0_pay5 (iblk m c 0 t) (iblk m c 1 t)

/-- The tile's product at an index is the row's projection through the laid-out weight. -/
theorem tile_at (c : Dev nD) (t : Fin cfg0.N) (r : Fin 512) (j : Fin 1920) :
    (tile m c t (ix2 r j) : EReal) = InprojSpec.projL (inX m c (row t r)) (inW m c) j := by
  refine (pay5_at r (iblk m c 0 t) (iblk m c 1 t) j).trans ?_
  exact Finset.sum_congr rfl fun k _ => congrArg₂ (fun a b : EReal => a * b) (blk0 m c t r k) (blk1 m c t k j)

/-- The values' columns of the tile. -/
theorem tile_v (c : Dev nD) (t : Fin cfg0.N) (r : Fin 512) (n : ℕ) (hn : n < 128) :
    (k0_pay5 (iblk m c 0 t) (iblk m c 1 t) (ix2 r ⟨1024 + n, by omega⟩) : EReal) = InprojSpec.proj (inX m c (row t r)) (inW m c) ⟨640 + n, by omega⟩ :=
  (tile_at m c t r _).trans ((InprojSpec.projL_mid _ _ _ (by omega) (by omega)).trans (congrArg (InprojSpec.proj _ _) (Fin.ext (by dsimp only; omega))))

/-- A grid point's coordinate is its number. -/
theorem coords_val : ∀ t : Fin cfg0.N, (grid0.coords t 0).val = t.val := (by decide +kernel : ∀ t : Fin grid0.N, _)

/-- A tile row's position is its row's place in its sequence. -/
theorem rowPos_eq (t : Fin cfg0.N) (r : Fin 512) : rowPos (grid0.coords t) r = (row t r).val % 2048 := by
  show (grid0.coords t 0).val * 512 % 2048 + r.val = (t.val * 512 + r.val) % 2048
  rw [coords_val]
  omega

/-- The queries' tile. -/
theorem outQ_at (c : Dev nD) (t : Fin cfg0.N) (r : Fin 512) (l : Fin 512) :
    out0_5 (grid0.coords t) (iblk m c 0 t) (iblk m c 1 t) (iblk m c 2 t) (iblk m c 3 t) (iblk m c 4 t) (ix2 r l) = resQ m c (ix2 (row t r) l) := by
  unfold_out out0_5
  canon_tiles x h
  idx_vars x
  obtain rfl : r = x0 := Fin.ext h0
  obtain rfl : l = x1 := Fin.ext h1
  rw [ld_S512x1024, ld_S1024x1920, pay6_at]
  exact congrArg (· * InprojSpec.scale) ((tile_at m c t r _).trans (InprojSpec.projL_q _ _ l))

/-- Two descriptions of a keys' column are the same. -/
theorem key_eq (T : FVec Ideal S512x1920 .f32) (r : Fin 512) (p : ℕ) (l : Fin 512) (a : Fin 256) (j : Fin 1920) (hj : j.val = 512 + l.val) (ha : l.val % 256 = a.val) :
    ((T (ix2 r j) : EReal) + if 64 ≤ a.val ∧ a.val < 192 then InprojSpec.posCol p (a.val % 64) else 0)
      = (T (ix2 r ⟨512 + l.val, by omega⟩) : EReal) + if 64 ≤ l.val % 256 ∧ l.val % 256 < 192 then InprojSpec.posCol p (l.val % 64) else 0 := by
  obtain ⟨j, hj'⟩ := j
  obtain rfl : j = 512 + l.val := hj
  rw [ha, show l.val % 64 = a.val % 64 by omega]

/-- The keys' tile. -/
theorem outK_at (c : Dev nD) (t : Fin cfg0.N) (r : Fin 512) (l : Fin 512) :
    out0_6 (grid0.coords t) (iblk m c 0 t) (iblk m c 1 t) (iblk m c 2 t) (iblk m c 3 t) (iblk m c 4 t) (ix2 r l) = resK m c (ix2 (row t r) l) := by
  refine Eq.trans ?_ (InprojSpec.projL_key (inX m c (row t r)) (inW m c) ((row t r).val % 2048) l)
  rw [← rowPos_eq, ← tile_at m c t r]
  unfold_out out0_6
  canon_tiles x h
  · idx_vars x
    obtain rfl : r = x0 := Fin.ext h0
    rw [ld_S512x1024, ld_S1024x1920, pay14_at]
    exact key_eq _ _ _ _ _ _ (by dsimp only; omega) (by omega)
  · idx_vars x
    obtain rfl : r = x0 := Fin.ext h0
    rw [ld_S512x1024, ld_S1024x1920, pay13_at]
    exact key_eq _ _ _ _ _ _ (by dsimp only; omega) (by omega)

/-- The values' tile. -/
theorem outV_at (c : Dev nD) (t : Fin cfg0.N) (l : Fin 512) (r : Fin 512) :
    out0_7 (grid0.coords t) (iblk m c 0 t) (iblk m c 1 t) (iblk m c 2 t) (iblk m c 3 t) (iblk m c 4 t) (ix2 l r) = resV m c (ix2 l (row t r)) := by
  unfold_out out0_7
  show _ = InprojSpec.vt (inX m c (row t r)) (inW m c) l
  unfold InprojSpec.vt
  canon_tiles x h
  · idx_vars x
    obtain rfl : r = x1 := Fin.ext h1
    rw [ld_S512x1024, ld_S1024x1920, pay22_at, tile_v m c t r _ (by omega)]
    split_ifs <;> first | (exfalso; omega) | exact congrArg _ (Fin.ext (by dsimp only; omega)) | exact congrArg InprojSpec.oneRow (by omega)
  · idx_vars x
    obtain rfl : r = x1 := Fin.ext h1
    rw [ld_S512x1024, ld_S1024x1920, pay21_at, tile_v m c t r _ (by omega)]
    split_ifs <;> first | (exfalso; omega) | exact congrArg _ (Fin.ext (by dsimp only; omega)) | exact congrArg InprojSpec.oneRow (by omega)
  · idx_vars x
    obtain rfl : r = x1 := Fin.ext h1
    rw [ld_S512x1024, ld_S1024x1920, pay20_at, tile_v m c t r _ (by omega)]
    split_ifs <;> first | (exfalso; omega) | exact congrArg _ (Fin.ext (by dsimp only; omega)) | exact congrArg InprojSpec.oneRow (by omega)
  · idx_vars x
    obtain rfl : r = x1 := Fin.ext h1
    rw [ld_S512x1024, ld_S1024x1920, pay18_at, tile_v m c t r _ (by omega)]
    split_ifs <;> first | (exfalso; omega) | exact congrArg _ (Fin.ext (by dsimp only; omega)) | exact congrArg InprojSpec.oneRow (by omega)

/-- The indexer queries' tile. -/
theorem outQi_at (c : Dev nD) (t : Fin cfg0.N) (r : Fin 512) (l : Fin 512) :
    out0_8 (grid0.coords t) (iblk m c 0 t) (iblk m c 1 t) (iblk m c 2 t) (iblk m c 3 t) (iblk m c 4 t) (ix2 r l) = resQi m c (ix2 (row t r) l) := by
  unfold_out out0_8
  canon_tiles x h
  idx_vars x
  obtain rfl : r = x0 := Fin.ext h0
  obtain rfl : l = x1 := Fin.ext h1
  rw [ld_S512x1024, ld_S1024x1920, pay23_at]
  exact (tile_at m c t r _).trans ((InprojSpec.projL_mid _ _ _ (by omega) (by omega)).trans (congrArg (InprojSpec.proj _ _) (Fin.ext (by show 1152 + l.val - 384 = 768 + l.val; omega))))

/-- The indexer keys' tile. -/
theorem outKi_at (c : Dev nD) (t : Fin cfg0.N) (r : Fin 512) (l : Fin 128) :
    out0_9 (grid0.coords t) (iblk m c 0 t) (iblk m c 1 t) (iblk m c 2 t) (iblk m c 3 t) (iblk m c 4 t) (ix2 r l) = resKi m c (ix2 (row t r) l) := by
  unfold_out out0_9
  canon_tiles x h
  idx_vars x
  obtain rfl : r = x0 := Fin.ext h0
  obtain rfl : l = x1 := Fin.ext h1
  rw [ld_S512x1024, ld_S1024x1920, ld_S1x128, ld_S1x128]
  refine (pay1_at (tile m c t) r _ _ l (fun k => InprojSpec.proj (inX m c (row t r)) (inW m c) ⟨1280 + k.val, by omega⟩) fun l => ?_).trans ?_
  · refine (tile_at m c t r _).trans ?_
    by_cases h : l.val < 64
    · exact (InprojSpec.projL_mid _ _ _ (by omega) (by omega)).trans (congrArg (InprojSpec.proj _ _) (Fin.ext (by dsimp only; omega)))
    · exact (InprojSpec.projL_end _ _ _ (by omega) (by omega)).trans (congrArg (InprojSpec.proj _ _) (Fin.ext (by dsimp only; omega)))
  · rw [blk3, blk4]
    rfl

/-- The head weights' tile. -/
theorem outWi_at (c : Dev nD) (t : Fin cfg0.N) (r : Fin 512) (l : Fin 128) :
    out0_10 (grid0.coords t) (iblk m c 0 t) (iblk m c 1 t) (iblk m c 2 t) (iblk m c 3 t) (iblk m c 4 t) (ix2 r l) = resWi m c (ix2 (row t r) l) := by
  unfold_out out0_10
  canon_tiles x h
  idx_vars x
  obtain rfl : r = x0 := Fin.ext h0
  obtain rfl : l = x1 := Fin.ext h1
  rw [ld_S512x1024, ld_S1024x1920, pay2_at]
  refine (tile_at m c t r _).trans ?_
  show _ = InprojSpec.wi (inX m c (row t r)) (inW m c) l
  unfold InprojSpec.wi
  by_cases h : l.val < 8
  · rw [dif_pos h]
    exact (InprojSpec.projL_end _ _ _ (by omega) (by omega)).trans (congrArg (InprojSpec.proj _ _) (Fin.ext (by dsimp only; omega)))
  · rw [dif_neg h]
    exact InprojSpec.projL_pad _ _ _ (by omega) (by omega)

/-- The recurrent branch's tile. -/
theorem outP_at (c : Dev nD) (t : Fin cfg0.N) (r : Fin 512) (l : Fin 1664) :
    out0_11 (grid0.coords t) (iblk m c 0 t) (iblk m c 1 t) (iblk m c 2 t) (iblk m c 3 t) (iblk m c 4 t) (ix2 r l) = resP m c (ix2 (row t r) l) := by
  unfold_out out0_11
  canon_tiles x h
  idx_vars x
  obtain rfl : r = x0 := Fin.ext h0
  obtain rfl : l = x1 := Fin.ext h1
  rw [ld_S512x1024, ld_S1024x1664, pay3_at]
  exact Finset.sum_congr rfl fun k _ => congrArg₂ (fun a b : EReal => a * b) (blk0 m c t r k) (blk2 m c t k l)

/-! ## The arrays -/

/-- THE QUERIES after the run. -/
theorem finalQ (c : Dev nD) : (dats m 0 c).arrAt 5 cfg0.N = resQ m c := by
  refine (dats m 0 c).arrAt_eq_of_covers 5 _ (by decide +kernel) fun t _ y => ?_
  blk_simp
  rw [after0_5]
  idx_vars y
  refine (outQ_at m c t y0 y1).trans ?_
  refine congrArg (resQ m c) ?_
  blk_simp [idx t]
  blk_ext [idx t]

/-- THE KEYS after the run. -/
theorem finalK (c : Dev nD) : (dats m 0 c).arrAt 6 cfg0.N = resK m c := by
  refine (dats m 0 c).arrAt_eq_of_covers 6 _ (by decide +kernel) fun t _ y => ?_
  blk_simp
  rw [after0_6]
  idx_vars y
  refine (outK_at m c t y0 y1).trans ?_
  refine congrArg (resK m c) ?_
  blk_simp [idx t]
  blk_ext [idx t]

/-- THE VALUES after the run. -/
theorem finalV (c : Dev nD) : (dats m 0 c).arrAt 7 cfg0.N = resV m c := by
  refine (dats m 0 c).arrAt_eq_of_covers 7 _ (by decide +kernel) fun t _ y => ?_
  blk_simp
  rw [after0_7]
  idx_vars y
  refine (outV_at m c t y0 y1).trans ?_
  refine congrArg (resV m c) ?_
  blk_simp [idx t]
  blk_ext [idx t]

/-- THE INDEXER QUERIES after the run. -/
theorem finalQi (c : Dev nD) : (dats m 0 c).arrAt 8 cfg0.N = resQi m c := by
  refine (dats m 0 c).arrAt_eq_of_covers 8 _ (by decide +kernel) fun t _ y => ?_
  blk_simp
  rw [after0_8]
  idx_vars y
  refine (outQi_at m c t y0 y1).trans ?_
  refine congrArg (resQi m c) ?_
  blk_simp [idx t]
  blk_ext [idx t]

/-- THE INDEXER KEY after the run. -/
theorem finalKi (c : Dev nD) : (dats m 0 c).arrAt 9 cfg0.N = resKi m c := by
  refine (dats m 0 c).arrAt_eq_of_covers 9 _ (by decide +kernel) fun t _ y => ?_
  blk_simp
  rw [after0_9]
  idx_vars y
  refine (outKi_at m c t y0 y1).trans ?_
  refine congrArg (resKi m c) ?_
  blk_simp [idx t]
  blk_ext [idx t]

/-- THE HEAD WEIGHTS after the run. -/
theorem finalWi (c : Dev nD) : (dats m 0 c).arrAt 10 cfg0.N = resWi m c := by
  refine (dats m 0 c).arrAt_eq_of_covers 10 _ (by decide +kernel) fun t _ y => ?_
  blk_simp
  rw [after0_10]
  idx_vars y
  refine (outWi_at m c t y0 y1).trans ?_
  refine congrArg (resWi m c) ?_
  blk_simp [idx t]
  blk_ext [idx t]

/-- THE RECURRENT BRANCH'S INPUT after the run. -/
theorem finalP (c : Dev nD) : (dats m 0 c).arrAt 11 cfg0.N = resP m c := by
  refine (dats m 0 c).arrAt_eq_of_covers 11 _ (by decide +kernel) fun t _ y => ?_
  blk_simp
  rw [after0_11]
  idx_vars y
  refine (outP_at m c t y0 y1).trans ?_
  refine congrArg (resP m c) ?_
  blk_simp [idx t]
  blk_ext [idx t]

end Cert.InprojIdeal.Value
-- ==== Proof.Inproj.Ref.lean ====
module

public import proofs.«01_k».proof.Proof.Gen.InprojRefIdeal.Run
public import proofs.«01_k».proof.Proof.Inproj.Tile

/-! What the reference of the input projections computes: its run's terms in named stages, each read at an index, and
    the functions of Spec.lean. -/

@[expose] public section

set_option maxRecDepth 16384

noncomputable section
open Idealize.ShloMosaic Idealize.ShloMosaic.TcCoe Idealize.SL.Sem
namespace Cert.InprojRefIdeal.Stage
open Cert.InprojRefIdeal Cert.InprojRefIdeal.Gen

/-- The projection of every row through the combined weight's columns of the input projections. -/
def projR (x : FVec Ideal S8x2048x1024 .f32) (w : FVec Ideal S1x1024x5064 .f32) : FVec Ideal S16384x3016 .f32 :=
  Host.dotGeneral dot_S16384x1024_S1024x3016_S16384x3016_1_0_0_1_n_n none (shapeCast S16384x1024 x shapeCasts_S8x2048x1024_S16384x1024)
    (extractStridedSlice S1024x3016 ![0, 0] (shapeCast S1024x5064 w shapeCasts_S1x1024x5064_S1024x5064) slices_S1024x5064_S1024x3016_0_0)

variable (P : FVec Ideal S16384x3016 .f32)

/-- The queries, scaled. -/
def qR : FVec Ideal S16384x512 .f32 :=
  mulf (extractStridedSlice S16384x512 ![0, 0] P slices_S16384x3016_S16384x512_0_0) (broadcastInDim S16384x512 ![] bcast_S_S16384x512 (constant S_ .f32 0x3E38AA3B#32))
/-- The two key heads. -/
def keysR : FVec Ideal S16384x128 .f32 := extractStridedSlice S16384x128 ![0, 512] P slices_S16384x3016_S16384x128_0_512
/-- The first key head. -/
def key0R : FVec Ideal S16384x64 .f32 := extractStridedSlice S16384x64 ![0, 0] (keysR P) slices_S16384x128_S16384x64_0_0
/-- The second key head. -/
def key1R : FVec Ideal S16384x64 .f32 := extractStridedSlice S16384x64 ![0, 64] (keysR P) slices_S16384x128_S16384x64_0_64
/-- Every row's position in its sequence. -/
def positionR : IVec S16384x1 32 :=
  shapeCast S16384x1 (broadcastInDim S8x2048 ![0, 1] bcast_S1x2048_S8x2048_0_1 (broadcastInDim S1x2048 ![1] bcast_S2048_S1x2048_1 (iotaInDim S2048 32 0))) shapeCasts_S8x2048_S16384x1
/-- The position's low four bits. -/
def lowR : IVec S16384x1 32 := andi positionR (broadcastInDim S16384x1 ![] bcast_S_S16384x1 (constantI S_ 32 15#32))
/-- The position as a multiple of sixteen and a rest. -/
def pairR : FVec Ideal S16384x2 .f32 :=
  sitofp .f32 (concatenate S16384x2 1 [⟨S16384x1, subi positionR lowR⟩, ⟨S16384x1, lowR⟩] concatenates_S16384x1_S16384x1_S16384x2_d1)
/-- Columns of zeros. -/
def zerosR : FVec Ideal S16384x58 .f32 := broadcastInDim S16384x58 ![] bcast_S_S16384x58 (constant S_ .f32 0x00000000#32)
/-- The position columns. -/
def posR : FVec Ideal S16384x64 .f32 :=
  concatenate S16384x64 1 [⟨S16384x2, pairR⟩, ⟨S16384x2, pairR⟩, ⟨S16384x2, pairR⟩, ⟨S16384x58, zerosR⟩] concatenates_S16384x2_S16384x2_S16384x2_S16384x58_S16384x64_d1
/-- The keys with their position columns. -/
def kR : FVec Ideal S16384x512 .f32 :=
  concatenate S16384x512 1 [⟨S16384x64, key0R P⟩, ⟨S16384x64, posR⟩, ⟨S16384x64, posR⟩, ⟨S16384x64, key0R P⟩, ⟨S16384x64, key1R P⟩, ⟨S16384x64, posR⟩, ⟨S16384x64, posR⟩, ⟨S16384x64, key1R P⟩]
    concatenates_S16384x64_S16384x64_S16384x64_S16384x64_S16384x64_S16384x64_S16384x64_S16384x64_S16384x512_d1
/-- A row of ones over zeros. -/
def onesR : FVec Ideal S64x16384 .f32 :=
  concatenate S64x16384 0 [⟨S1x16384, broadcastInDim S1x16384 ![] bcast_S_S1x16384 (constant (F := Ideal) S_ .f32 0x3F800000#32)⟩,
    ⟨S63x16384, broadcastInDim S63x16384 ![] bcast_S_S63x16384 (constant (F := Ideal) S_ .f32 0x00000000#32)⟩] concatenates_S1x16384_S63x16384_S64x16384_d0
/-- The two value heads. -/
def valsR : FVec Ideal S16384x128 .f32 := extractStridedSlice S16384x128 ![0, 640] P slices_S16384x3016_S16384x128_0_640
/-- The first value head, positions along the columns. -/
def val0R : FVec Ideal S64x16384 .f32 := transpose S64x16384 [1, 0] (extractStridedSlice S16384x64 ![0, 0] (valsR P) slices_S16384x128_S16384x64_0_0) transposes_S16384x64_S64x16384_1_0
/-- The second value head, positions along the columns. -/
def val1R : FVec Ideal S64x16384 .f32 := transpose S64x16384 [1, 0] (extractStridedSlice S16384x64 ![0, 64] (valsR P) slices_S16384x128_S16384x64_0_64) transposes_S16384x64_S64x16384_1_0
/-- The values with their rows of ones. -/
def vR : FVec Ideal S512x16384 .f32 :=
  concatenate S512x16384 0 [⟨S64x16384, val0R P⟩, ⟨S64x16384, onesR⟩, ⟨S64x16384, onesR⟩, ⟨S64x16384, val0R P⟩, ⟨S64x16384, val1R P⟩, ⟨S64x16384, onesR⟩, ⟨S64x16384, onesR⟩, ⟨S64x16384, val1R P⟩]
    concatenates_S64x16384_S64x16384_S64x16384_S64x16384_S64x16384_S64x16384_S64x16384_S64x16384_S512x16384_d0
/-- The indexer queries. -/
def qiR : FVec Ideal S16384x512 .f32 := extractStridedSlice S16384x512 ![0, 768] P slices_S16384x3016_S16384x512_0_768
/-- The indexer key before its layer norm. -/
def kiR : FVec Ideal S16384x64 .f32 := extractStridedSlice S16384x64 ![0, 1280] P slices_S16384x3016_S16384x64_0_1280
/-- The mean over 64 features. -/
def meanR (x : FVec Ideal S16384x64 .f32) : FVec Ideal S16384x1 .f32 :=
  Host.divf (broadcastInDim S16384x1 ![0] bcast_S16384_S16384x1_0 (Host.reduceAdd x (constant S_ .f32 0x00000000#32) reducesTo_S16384x64_S16384_d1 h_S_))
    (broadcastInDim S16384x1 ![] bcast_S_S16384x1 (constant S_ .f32 0x42800000#32))
/-- The deviation from the mean. -/
def devR (x : FVec Ideal S16384x64 .f32) : FVec Ideal S16384x64 .f32 :=
  subf x (broadcastInDim S16384x64 ![0, 1] bcast_S16384x1_S16384x64_0_1 (meanR x))
/-- A feature row at every row. -/
def rowR (b : FVec Ideal S1x64 .f32) : FVec Ideal S16384x64 .f32 :=
  broadcastInDim S16384x64 ![0, 1] bcast_S1x64_S16384x64_0_1 (broadcastInDim S1x64 ![1] bcast_S64_S1x64_1 (shapeCast S64 b shapeCasts_S1x64_S64))
/-- Layer norm over 64 features. -/
def normR (x : FVec Ideal S16384x64 .f32) (lw lb : FVec Ideal S1x64 .f32) : FVec Ideal S16384x64 .f32 :=
  addf (mulf (mulf (devR x) (broadcastInDim S16384x64 ![0, 1] bcast_S16384x1_S16384x64_0_1
      (Host.rsqrt (addf (meanR (mulf (devR x) (devR x))) (broadcastInDim S16384x1 ![] bcast_S_S16384x1 (constant S_ .f32 0x3727C5AC#32)))))) (rowR lw)) (rowR lb)
/-- The indexer key, twice side by side. -/
def ki2R (lw lb : FVec Ideal S1x64 .f32) : FVec Ideal S16384x128 .f32 :=
  concatenate S16384x128 1 [⟨S16384x64, normR (kiR P) lw lb⟩, ⟨S16384x64, normR (kiR P) lw lb⟩] concatenates_S16384x64_S16384x64_S16384x128_d1
/-- The head weights, padded to 128. -/
def wiR : FVec Ideal S16384x128 .f32 :=
  pad S16384x128 ![0, 0] ![0, 120] ![0, 0] (extractStridedSlice S16384x8 ![0, 1344] P slices_S16384x3016_S16384x8_0_1344) (sitofp .f32 (constantI S_ 32 0#32)) pads_S16384x8_S16384x128_000_01200 h_S_
/-- The recurrent branch's input. -/
def prR : FVec Ideal S16384x1664 .f32 := extractStridedSlice S16384x1664 ![0, 1352] P slices_S16384x3016_S16384x1664_0_1352

/-! ## The run's terms -/

section
variable (m : (ℓ : Loc nD τ sig) → Buf (Elt Ideal) ℓ)

/-- The projection in the reference's run. -/
abbrev proj (c : Dev nD) : FVec Ideal S16384x3016 .f32 := projR (m ((c.tc : Thread nD τ).loc main_arg0)) (m ((c.tc : Thread nD τ).loc main_arg1))

/-- THE REFERENCE'S RUN leaves the stages in its results and its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v65) = truncf .bf16 (qR (proj m c)) bitsLt_bf16_f32
      ∧ r.2.mem ((c.tc : Thread nD τ).loc main_v66) = truncf .bf16 (kR (proj m c)) bitsLt_bf16_f32
      ∧ r.2.mem ((c.tc : Thread nD τ).loc main_v67) = truncf .bf16 (vR (proj m c)) bitsLt_bf16_f32
      ∧ r.2.mem ((c.tc : Thread nD τ).loc main_v68) = truncf .bf16 (qiR (proj m c)) bitsLt_bf16_f32
      ∧ r.2.mem ((c.tc : Thread nD τ).loc main_v69) = truncf .bf16 (ki2R (proj m c) (m ((c.tc : Thread nD τ).loc main_arg2)) (m ((c.tc : Thread nD τ).loc main_arg3))) bitsLt_bf16_f32
      ∧ r.2.mem ((c.tc : Thread nD τ).loc main_v62) = wiR (proj m c)
      ∧ r.2.mem ((c.tc : Thread nD τ).loc main_v10) = prR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run m ρ
end

/-! ## The stages at an index -/

/-- The projection at a row and a column. -/
theorem projR_at (x : FVec Ideal S8x2048x1024 .f32) (w : FVec Ideal S1x1024x5064 .f32) (R : Fin 16384) (j : Fin 3016) :
    projR x w (ix2 R j) = InprojSpec.proj (fun k => x (ix3 (MergeSpec.seq R) (MergeSpec.pos R) k)) (fun k j => w (ix3 0 k j)) ⟨j.val, by omega⟩ := by
  pointwise [projR]
  rfl

variable (R : Fin 16384)

/-- The scaled queries at an index. -/
theorem qR_at (l : Fin 512) : (qR P (ix2 R l) : EReal) = (P (ix2 R ⟨l.val, by omega⟩) : EReal) * InprojSpec.scale := by
  pointwise [qR]

/-- The first key head at an index. -/
theorem key0R_at (l : Fin 64) : key0R P (ix2 R l) = P (ix2 R ⟨512 + l.val, by omega⟩) := by
  pointwise [key0R, keysR]

/-- The second key head at an index. -/
theorem key1R_at (l : Fin 64) : key1R P (ix2 R l) = P (ix2 R ⟨576 + l.val, by omega⟩) := by
  pointwise [key1R, keysR]
  exact congrArg (fun j => P (ix2 R j)) (Fin.ext (by show 512 + (64 + l.val) = 576 + l.val; omega))

/-- A row's position. -/
theorem positionR_at (z : Fin 1) : positionR (ix2 R z) = BitVec.ofNat 32 (R.val % 2048) := by
  obtain rfl : z = 0 := Subsingleton.elim _ _
  pointwise [positionR]

/-- The position's low four bits. -/
theorem lowR_at (z : Fin 1) : lowR (ix2 R z) = BitVec.ofNat 32 (R.val % 2048 % 16) := by
  rw [← Cert.InprojIdeal.Value.low_bits _ (by omega), ← positionR_at R z]
  pointwise [lowR]
  rfl

/-- The multiple of sixteen. -/
theorem highR_at (z : Fin 1) : IntOp.subi (positionR (ix2 R z)) (lowR (ix2 R z)) = BitVec.ofNat 32 (R.val % 2048 - R.val % 2048 % 16) := by
  rw [lowR_at, positionR_at]
  exact Cert.InprojIdeal.Value.high_bits _ (by omega)

/-- The two parts of the position as floats. -/
theorem pairR_at (l : Fin 2) : (pairR (ix2 R l) : EReal) = if l.val = 0 then InprojSpec.num (R.val % 2048 - R.val % 2048 % 16) else InprojSpec.num (R.val % 2048 % 16) := by
  pointwise [pairR]
  simp only [highR_at]
  simp only [lowR_at]
  by_cases h : l.val = 0
  · simp (disch := omega) only [dif_pos, if_pos]
    exact Cert.InprojIdeal.Value.sitofp_num _ (by omega)
  · simp (disch := omega) only [dif_neg, if_neg]
    exact Cert.InprojIdeal.Value.sitofp_num _ (by omega)

/-- The zeros at an index. -/
theorem zerosR_at (l : Fin 58) : zerosR (ix2 R l) = 0 := by
  pointwise [zerosR]

/-- The position columns at an index. -/
theorem posR_at (l : Fin 64) : posR (ix2 R l) = InprojSpec.posCol (R.val % 2048) l.val := by
  pointwise [posR]
  simp only [pairR_at, zerosR_at]
  unfold InprojSpec.posCol
  have hc : l.val = 0 ∨ l.val = 1 ∨ l.val = 2 ∨ l.val = 3 ∨ l.val = 4 ∨ l.val = 5 ∨ 6 ≤ l.val := by omega
  rcases hc with h | h | h | h | h | h | h <;> simp (disch := omega) only [dif_pos, dif_neg, if_pos, if_neg]

/-- The eight blocks of sixty-four columns. -/
theorem blocks (l : Fin 512) : l.val < 64 ∨ (64 ≤ l.val ∧ l.val < 128) ∨ (128 ≤ l.val ∧ l.val < 192) ∨ (192 ≤ l.val ∧ l.val < 256)
    ∨ (256 ≤ l.val ∧ l.val < 320) ∨ (320 ≤ l.val ∧ l.val < 384) ∨ (384 ≤ l.val ∧ l.val < 448) ∨ 448 ≤ l.val := by omega

/-- The keys at an index: head, position columns twice, head. -/
theorem kR_at (l : Fin 512) : kR P (ix2 R l) = if h : l.val % 256 < 64 then P (ix2 R ⟨512 + l.val / 256 * 64 + l.val % 256, by omega⟩)
    else if l.val % 256 < 192 then InprojSpec.posCol (R.val % 2048) (l.val % 64) else P (ix2 R ⟨512 + l.val / 256 * 64 + (l.val % 256 - 192), by omega⟩) := by
  pointwise [kR]
  simp only [key0R_at, key1R_at, posR_at]
  rcases blocks l with h | h | h | h | h | h | h | h <;> simp (disch := omega) only [dif_pos, dif_neg, if_pos, if_neg] <;>
    first | exact congrArg (fun j => P (ix2 R j)) (Fin.ext (by dsimp only; omega)) | exact congrArg (InprojSpec.posCol _) (by omega)

/-- The row of ones over zeros at an index. -/
theorem onesR_at (l : Fin 64) : onesR (ix2 l R) = InprojSpec.oneRow l.val := by
  pointwise [onesR]
  unfold InprojSpec.oneRow
  split_ifs <;> first | rfl | (exfalso; omega)

/-- The first value head at an index. -/
theorem val0R_at (l : Fin 64) : val0R P (ix2 l R) = P (ix2 R ⟨640 + l.val, by omega⟩) := by
  pointwise [val0R, valsR]

/-- The second value head at an index. -/
theorem val1R_at (l : Fin 64) : val1R P (ix2 l R) = P (ix2 R ⟨704 + l.val, by omega⟩) := by
  pointwise [val1R, valsR]
  exact congrArg (fun j => P (ix2 R j)) (Fin.ext (by show 640 + (64 + l.val) = 704 + l.val; omega))

/-- The values at an index: head, row of ones twice, head. -/
theorem vR_at (l : Fin 512) : vR P (ix2 l R) = if h : l.val % 256 < 64 then P (ix2 R ⟨640 + l.val / 256 * 64 + l.val % 256, by omega⟩)
    else if l.val % 256 < 192 then InprojSpec.oneRow (l.val % 64) else P (ix2 R ⟨640 + l.val / 256 * 64 + (l.val % 256 - 192), by omega⟩) := by
  pointwise [vR]
  simp only [val0R_at, val1R_at, onesR_at]
  rcases blocks l with h | h | h | h | h | h | h | h <;> simp (disch := omega) only [dif_pos, dif_neg, if_pos, if_neg] <;>
    first | exact congrArg (fun j => P (ix2 R j)) (Fin.ext (by dsimp only; omega)) | exact congrArg InprojSpec.oneRow (by omega)

/-- The indexer queries at an index. -/
theorem qiR_at (l : Fin 512) : qiR P (ix2 R l) = P (ix2 R ⟨768 + l.val, by omega⟩) := by
  pointwise [qiR]

/-- The layer norm at an index. -/
theorem normR_at (x : FVec Ideal S16384x64 .f32) (lw lb : FVec Ideal S1x64 .f32) (l : Fin 64) :
    normR x lw lb (ix2 R l) = InprojSpec.norm (fun k => x (ix2 R k)) (lw (ix2 0 l)) (lb (ix2 0 l)) l := by
  pointwise [normR, devR, meanR, rowR]
  rfl

/-- The indexer key at an index. -/
theorem ki2R_at (lw lb : FVec Ideal S1x64 .f32) (l : Fin 128) : ki2R P lw lb (ix2 R l)
    = InprojSpec.norm (fun k => P (ix2 R ⟨1280 + k.val, by omega⟩)) (lw (ix2 0 ⟨l.val % 64, by omega⟩)) (lb (ix2 0 ⟨l.val % 64, by omega⟩)) ⟨l.val % 64, by omega⟩ := by
  pointwise [ki2R, normR_at, kiR]
  by_cases h : l.val < 64
  · simp only [dif_pos h, Nat.mod_eq_of_lt h]
  · simp only [dif_neg h, show l.val % 64 = l.val - 64 by omega]

/-- The padded head weights at an index. -/
theorem wiR_at (l : Fin 128) : wiR P (ix2 R l) = if h : l.val < 8 then P (ix2 R ⟨1344 + l.val, by omega⟩) else 0 := by
  pointwise [wiR]
  rw [Cert.FfnRefIdeal.Stage.sitofp_zero]

/-- The recurrent branch's input at an index. -/
theorem prR_at (l : Fin 1664) : prR P (ix2 R l) = P (ix2 R ⟨1352 + l.val, by omega⟩) := by
  pointwise [prR]

/-! ## The results -/

section
variable (x : FVec Ideal S8x2048x1024 .f32) (w : FVec Ideal S1x1024x5064 .f32)

/-- A row of the input. -/
abbrev inRow (k : Fin 1024) : EReal := x (ix3 (MergeSpec.seq R) (MergeSpec.pos R) k)

/-- The queries. -/
theorem q_at (l : Fin 512) : (qR (projR x w) (ix2 R l) : EReal) = InprojSpec.q (inRow R x) (fun k j => w (ix3 0 k j)) l := by
  rw [qR_at, projR_at]
  rfl
/-- The keys. -/
theorem k_at (l : Fin 512) : (kR (projR x w) (ix2 R l) : EReal) = InprojSpec.k4 (inRow R x) (fun k j => w (ix3 0 k j)) (R.val % 2048) l := by
  simp only [kR_at, projR_at]
  rfl
/-- The values. -/
theorem v_at (l : Fin 512) : (vR (projR x w) (ix2 l R) : EReal) = InprojSpec.vt (inRow R x) (fun k j => w (ix3 0 k j)) l := by
  simp only [vR_at, projR_at]
  rfl
/-- The indexer queries. -/
theorem qi_at (l : Fin 512) : (qiR (projR x w) (ix2 R l) : EReal) = InprojSpec.qi (inRow R x) (fun k j => w (ix3 0 k j)) l := by
  rw [qiR_at, projR_at]
  rfl
/-- The indexer key. -/
theorem ki_at (lw lb : FVec Ideal S1x64 .f32) (l : Fin 128) : (ki2R (projR x w) lw lb (ix2 R l) : EReal)
    = InprojSpec.ki2 (inRow R x) (fun k j => w (ix3 0 k j)) (fun l => lw (ix2 0 l)) (fun l => lb (ix2 0 l)) l := by
  simp only [ki2R_at, projR_at]
  rfl
/-- The head weights. -/
theorem wi_at (l : Fin 128) : (wiR (projR x w) (ix2 R l) : EReal) = InprojSpec.wi (inRow R x) (fun k j => w (ix3 0 k j)) l := by
  simp only [wiR_at, projR_at]
  rfl
/-- The recurrent branch's input. -/
theorem pr_at (l : Fin 1664) : (prR (projR x w) (ix2 R l) : EReal) = InprojSpec.pr (inRow R x) (fun k j => w (ix3 0 k j)) l := by
  rw [prR_at, projR_at]
  rfl
end

end Cert.InprojRefIdeal.Stage
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Inproj.Frame
public import proofs.«01_k».proof.Proof.Gen.InprojIdeal.Value
public import proofs.«01_k».proof.Proof.Gen.InprojRefIdeal.Run
public import proofs.«01_k».proof.Proof.Gen.Rwkv.Frame
public import proofs.«01_k».proof.Proof.Gen.RwkvIdeal.Frame
public import Idealize.ShloMosaic.Adequacy
public import Idealize.ShloMosaic.Init
public import Idealize.ShloMosaic.Lib.Quiescent
public import proofs.«01_k».proof.Proof.Ffn.Final
public import proofs.«01_k».proof.Proof.Ffn.Ref
public import proofs.«01_k».proof.Proof.Merge.Final
public import proofs.«01_k».proof.Proof.Merge.Ref
public import proofs.«01_k».proof.Proof.Inproj.Final
public import proofs.«01_k».proof.Proof.Inproj.Ref

@[expose] public section

noncomputable section

namespace Cert.Proof

open Idealize.ShloMosaic Idealize.SL.Sem

/-- The feed-forward reference runs to its end and leaves its arguments as they were. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward kernel and its reference leave the same result over the extended reals. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨a0, a1, a2, a3, a4, a5, a6⟩ := hagree c
  refine (Cert.FfnRefIdeal.Stage.res_eq m' c).trans ?_
  rw [← Cert.FfnIdeal.Value.final7, Cert.FfnIdeal.Value.final, a0, a1, a2, a3, a4, a5, a6]
  funext i
  idx_vars i
  exact Cert.FfnRefIdeal.Stage.allR_at _ _ _ _ _ _ _ i0 i1

/-- The merge's reference runs to its end and leaves its arguments as they were. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge kernel and its reference leave the same result over the extended reals. -/
theorem algebraic_MergeIdeal_MergeRefIdeal : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  rw [(h c).1]
  obtain ⟨a0, a1, a2, a3, a4, a5, a6, a7, a8⟩ := hagree c
  refine (Cert.MergeRefIdeal.Stage.res_eq m' c).trans ?_
  rw [Cert.MergeIdeal.Value.final, a0, a1, a2, a3, a4, a5, a6, a7, a8]
  funext i
  idx_vars i
  exact Cert.MergeRefIdeal.Stage.allR_at _ _ _ _ _ _ _ _ _ i0 i1

/-- The input projections' reference runs to its end and leaves its arguments as they were. -/
theorem quiescent_InprojRefIdeal : quiescent_InprojRefIdeal := fun m ρ _ =>
  (θ_run Cert.InprojRefIdeal.defs _ _).mono (fun r h => ⟨fun c => (h c).2.2.2.2.2.2.2, sem_eq_zero_of_no_sems (by decide) r.2⟩)
    (Cert.InprojRefIdeal.Stage.run m ρ)

/-- The input projection kernel and its reference leave the same seven results over the extended reals. -/
theorem algebraic_InprojIdeal_InprojRefIdeal : algebraic_InprojIdeal_InprojRefIdeal := by
  intro m ρ m' ρ' _ hagree
  refine ⟨_, _, _, _, _, _, _, Cert.InprojIdeal.Value.run_blocks (F := Ideal) m ρ, ?_⟩
  refine (θ_run Cert.InprojRefIdeal.defs _ _).mono (fun _ h c => ?_) (Cert.InprojRefIdeal.Stage.run m' ρ')
  obtain ⟨h0, h1, h2, h3, h4, h5, h6, hargs⟩ := h c
  obtain ⟨a0, a1, a2, a3⟩ := hagree c
  rw [Cert.InprojIdeal.Value.finalQ, Cert.InprojIdeal.Value.finalK, Cert.InprojIdeal.Value.finalV, Cert.InprojIdeal.Value.finalQi,
    Cert.InprojIdeal.Value.finalKi, Cert.InprojIdeal.Value.finalWi, Cert.InprojIdeal.Value.finalP]
  unfold Cert.InprojRefIdeal.Stage.proj at h0 h1 h2 h3 h4 h5 h6
  rw [a0, a1] at h0 h1 h2 h3 h4 h5 h6
  rw [a2, a3] at h4
  refine ⟨h0.trans ?_, h1.trans ?_, h2.trans ?_, h3.trans ?_, h4.trans ?_, h5.trans ?_, h6.trans ?_, hargs⟩ <;> funext i <;> idx_vars i
  · exact Cert.InprojRefIdeal.Stage.q_at i0 _ _ i1
  · exact Cert.InprojRefIdeal.Stage.k_at i0 _ _ i1
  · exact Cert.InprojRefIdeal.Stage.v_at i1 _ _ i0
  · exact Cert.InprojRefIdeal.Stage.qi_at i0 _ _ i1
  · exact Cert.InprojRefIdeal.Stage.ki_at i0 _ _ _ _ i1
  · exact Cert.InprojRefIdeal.Stage.wi_at i0 _ _ i1
  · exact Cert.InprojRefIdeal.Stage.pr_at i0 _ _ i1

/-- The claim. -/
theorem claim : Cert.Claim := ⟨Cert.Ffn.Gen.facts, Cert.FfnIdeal.Gen.facts, Cert.FfnRefIdeal.Gen.facts,
  Cert.Merge.Gen.facts, Cert.MergeIdeal.Gen.facts, Cert.MergeRefIdeal.Gen.facts,
  Cert.Inproj.Gen.facts, Cert.InprojIdeal.Gen.facts, Cert.InprojRefIdeal.Gen.facts,
  Cert.Rwkv.Gen.facts, Cert.RwkvIdeal.Gen.facts,
  fun m ρ _ => Cert.Ffn.Gen.frame m ρ, fun m ρ _ => Cert.FfnIdeal.Gen.frame m ρ, quiescent_FfnRefIdeal,
  fun m ρ _ => Cert.Merge.Gen.frame m ρ, fun m ρ _ => Cert.MergeIdeal.Gen.frame m ρ, quiescent_MergeRefIdeal,
  fun m ρ _ => Cert.Inproj.Gen.frame m ρ, fun m ρ _ => Cert.InprojIdeal.Gen.frame m ρ, quiescent_InprojRefIdeal,
  fun m ρ _ => Cert.Rwkv.Gen.frame m ρ, fun m ρ _ => Cert.RwkvIdeal.Gen.frame m ρ,
  (trivial : preserves_Ffn_FfnIdeal), algebraic_FfnIdeal_FfnRefIdeal,
  (trivial : preserves_Merge_MergeIdeal), algebraic_MergeIdeal_MergeRefIdeal,
  (trivial : preserves_Inproj_InprojIdeal), algebraic_InprojIdeal_InprojRefIdeal,
  (trivial : preserves_Rwkv_RwkvIdeal)⟩

end Cert.Proof

end
